-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_finite_gain [hPre_finite_gain : Cert.Pre_finite_gain.Facts] (m : (ℓ : Loc Cert.MlpIdeal.nD Cert.MlpIdeal.τ Cert.MlpIdeal.sig) → Buf (Elt Ideal) ℓ) : Prop :=
  ∀ c : Dev Cert.MlpIdeal.nD,
    (Cert.Pre_finite_gain.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8))) = (fun _ => 1#1)

def Pre_NormIdeal (m : (ℓ : Loc Cert.NormIdeal.nD Cert.NormIdeal.τ Cert.NormIdeal.sig) → Buf (Elt Ideal) ℓ) : Prop :=
  True

def Pre_NormIdeal_finite_gain [hPre_finite_gain : Cert.Pre_finite_gain.Facts] (m : (ℓ : Loc Cert.NormIdeal.nD Cert.NormIdeal.τ Cert.NormIdeal.sig) → Buf (Elt Ideal) ℓ) : Prop :=
  ∀ c : Dev Cert.NormIdeal.nD,
    (Cert.Pre_finite_gain.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7)) (m ((c.tc : Thread Cert.NormIdeal.nD Cert.NormIdeal.τ).loc Cert.NormIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_MlpIdeal_pre_finite_gain [hMlpIdeal : Cert.MlpIdeal.Facts] [hPre_finite_gain : Cert.Pre_finite_gain.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_finite_gain m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def quiescent_NormIdeal_pre_finite_gain [hNormIdeal : Cert.NormIdeal.Facts] [hPre_finite_gain : Cert.Pre_finite_gain.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_gain m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8))
      ∧ r.2.sem = fun _ => 0)

def preserves_Kernel_KernelIdeal : Prop :=
  IdealRules.named_const.Statement Cert.KernelIdeal.κ "mask" .f32 0xF149F2CA#32 ⊥

def preserves_Mlp_MlpIdeal : Prop :=
  IdealRules.named_const.Statement Cert.MlpIdeal.κ "mean" .f32 0x3A2AAAAB#32 ((1 / 1536 : ℝ) : EReal)
  ∧ IdealRules.truncf_extf.Statement Cert.MlpIdeal.S32x128 .f32 .bf16
  ∧ IdealRules.truncf_extf.Statement Cert.MlpIdeal.S256x128 .f32 .bf16
  ∧ IdealRules.truncf_extf.Statement Cert.MlpIdeal.S32x1536 .f32 .bf16

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_MlpIdeal_NormIdeal_pre_finite_gain [hMlpIdeal : Cert.MlpIdeal.Facts] [hNormIdeal : Cert.NormIdeal.Facts] [hPre_finite_gain : Cert.Pre_finite_gain.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.NormIdeal.nD Cert.NormIdeal.τ Cert.NormIdeal.sig) → Buf (Elt Ideal) ℓ) (g' : Dev Cert.NormIdeal.nD → PrngReg), Pre_MlpIdeal_finite_gain m →
    (∀ c : Dev Cert.MlpIdeal.nD,
      m' ((c.tc : Thread Cert.NormIdeal.nD Cert.NormIdeal.τ).loc Cert.NormIdeal.main_arg0) = m ((c.tc : Thread Cert.MlpIdeal.nD Cert.MlpIdeal.τ).loc Cert.MlpIdeal.main_arg0)
      ∧ m' ((c.tc : Thread Cert.NormIdeal.nD Cert.NormIdeal.τ).loc Cert.NormIdeal.main_arg1) = m ((c.tc : Thread Cert.MlpIdeal.nD Cert.MlpIdeal.τ).loc Cert.MlpIdeal.main_arg1)
      ∧ m' ((c.tc : Thread Cert.NormIdeal.nD Cert.NormIdeal.τ).loc Cert.NormIdeal.main_arg2) = m ((c.tc : Thread Cert.MlpIdeal.nD Cert.MlpIdeal.τ).loc Cert.MlpIdeal.main_arg2)
      ∧ m' ((c.tc : Thread Cert.NormIdeal.nD Cert.NormIdeal.τ).loc Cert.NormIdeal.main_arg3) = m ((c.tc : Thread Cert.MlpIdeal.nD Cert.MlpIdeal.τ).loc Cert.MlpIdeal.main_arg3)
      ∧ m' ((c.tc : Thread Cert.NormIdeal.nD Cert.NormIdeal.τ).loc Cert.NormIdeal.main_arg4) = m ((c.tc : Thread Cert.MlpIdeal.nD Cert.MlpIdeal.τ).loc Cert.MlpIdeal.main_arg4)
      ∧ m' ((c.tc : Thread Cert.NormIdeal.nD Cert.NormIdeal.τ).loc Cert.NormIdeal.main_arg5) = m ((c.tc : Thread Cert.MlpIdeal.nD Cert.MlpIdeal.τ).loc Cert.MlpIdeal.main_arg5)
      ∧ m' ((c.tc : Thread Cert.NormIdeal.nD Cert.NormIdeal.τ).loc Cert.NormIdeal.main_arg6) = m ((c.tc : Thread Cert.MlpIdeal.nD Cert.MlpIdeal.τ).loc Cert.MlpIdeal.main_arg6)
      ∧ m' ((c.tc : Thread Cert.NormIdeal.nD Cert.NormIdeal.τ).loc Cert.NormIdeal.main_arg7) = m ((c.tc : Thread Cert.MlpIdeal.nD Cert.MlpIdeal.τ).loc Cert.MlpIdeal.main_arg7)
      ∧ m' ((c.tc : Thread Cert.NormIdeal.nD Cert.NormIdeal.τ).loc Cert.NormIdeal.main_arg8) = m ((c.tc : Thread Cert.MlpIdeal.nD Cert.MlpIdeal.τ).loc Cert.MlpIdeal.main_arg8)) →
    ∃ (v0 : (c : Dev Cert.MlpIdeal.nD) → Buf (Elt Ideal) ((c.tc : Thread Cert.MlpIdeal.nD Cert.MlpIdeal.τ).loc Cert.MlpIdeal.main_v0_0)) (v1 : (c : Dev Cert.MlpIdeal.nD) → Buf (Elt Ideal) ((c.tc : Thread Cert.MlpIdeal.nD Cert.MlpIdeal.τ).loc Cert.MlpIdeal.main_v0_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0_0) = v0 c
          ∧ r.2.mem ((c.tc : Thread Cert.MlpIdeal.nD Cert.MlpIdeal.τ).loc Cert.MlpIdeal.main_v0_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8))
      ∧ θ_run (Cert.NormIdeal.defs (F := Ideal)) (onTc (τ := Cert.NormIdeal.τ) (Cert.NormIdeal.main (F := Ideal))) ⟨m', fun _ => 0, g'⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_arg0) = m' ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m' ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m' ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m' ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m' ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m' ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m' ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m' ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m' ((c.tc : Thread Cert.NormIdeal.nD Cert.NormIdeal.τ).loc Cert.NormIdeal.main_arg8))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hNormIdeal : Cert.NormIdeal.Facts) (hPre_in_domain : Cert.Pre_in_domain.Facts) (hPre_finite_gain : Cert.Pre_finite_gain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ quiescent_Mlp (hMlp := hMlp)
    ∧ quiescent_MlpIdeal (hMlpIdeal := hMlpIdeal)
    ∧ quiescent_MlpIdeal_pre_finite_gain (hMlpIdeal := hMlpIdeal) (hPre_finite_gain := hPre_finite_gain)
    ∧ quiescent_NormIdeal (hNormIdeal := hNormIdeal)
    ∧ quiescent_NormIdeal_pre_finite_gain (hNormIdeal := hNormIdeal) (hPre_finite_gain := hPre_finite_gain)
    ∧ preserves_Kernel_KernelIdeal
    ∧ preserves_Mlp_MlpIdeal
    ∧ algebraic_KernelIdeal_ReferenceIdeal_pre_in_domain (hKernelIdeal := hKernelIdeal) (hReferenceIdeal := hReferenceIdeal) (hPre_in_domain := hPre_in_domain)
    ∧ algebraic_MlpIdeal_NormIdeal_pre_finite_gain (hMlpIdeal := hMlpIdeal) (hNormIdeal := hNormIdeal) (hPre_finite_gain := hPre_finite_gain)
-- ==== Pre_finite_gain.lean ====
abbrev S1792x1536 : Shape := ⟨2, ![1792, 1536]⟩
abbrev S1x1536 : Shape := ⟨2, ![1, 1536]⟩
abbrev S1536x8960 : Shape := ⟨2, ![1536, 8960]⟩
abbrev S48x8960 : Shape := ⟨2, ![48, 8960]⟩
abbrev S8960x1536 : Shape := ⟨2, ![8960, 1536]⟩
abbrev S280x1536 : Shape := ⟨2, ![280, 1536]⟩
abbrev S_ : Shape := ⟨0, ![]⟩

class Facts : Prop where
  bcast_S_S1x1536 : S_.BroadcastsInDim S1x1536 (![] : Fin 0 → Fin S1x1536.rank)
  reducesTo_S1x1536_S_d0_1 : S1x1536.ReducesTo [0, 1] S_
  h_S_ : 0 < S_.numel

variable [Facts]

def fn {F : FTy → Type} [FloatOps F] (main_arg0 : FVec F S1792x1536 .bf16) (main_arg1 : FVec F S1x1536 .f32) (main_arg2 : FVec F S1x1536 .f32) (main_arg3 : FVec F S1536x8960 .fp8e4m3) (main_arg4 : IVec S48x8960 8) (main_arg5 : FVec F S1536x8960 .fp8e4m3) (main_arg6 : IVec S48x8960 8) (main_arg7 : FVec F S8960x1536 .fp8e4m3) (main_arg8 : IVec S280x1536 8) : IVec S_ 1 :=
  let main_v0 : FVec F S1x1536 .f32 := Host.absf main_arg1
  let main_cst : FVec F S_ .f32 := constant S_ .f32 0x7F7FFFFF#32
  let main_v1 : FVec F S1x1536 .f32 := broadcastInDim S1x1536 ![] bcast_S_S1x1536 main_cst
  let main_v2 : IVec S1x1536 1 := cmpf .ole main_v0 main_v1
  let main_c : IVec S_ 1 := constantI S_ 1 1#1
  let main_v3 : IVec S_ 1 := (fun x v => Host.reduce IntOp.andi x v reducesTo_S1x1536_S_d0_1 h_S_) main_v2 main_c
  main_v3
-- ==== Pre_in_domain.lean ====
abbrev S1792x1536 : Shape := ⟨2, ![1792, 1536]⟩
abbrev S1792x1 : Shape := ⟨2, ![1792, 1]⟩
abbrev S1536x151936 : Shape := ⟨2, ![1536, 151936]⟩
abbrev S48x151936 : Shape := ⟨2, ![48, 151936]⟩
abbrev S_ : Shape := ⟨0, ![]⟩

class Facts : Prop where
  bcast_S_S1792x1 : S_.BroadcastsInDim S1792x1 (![] : Fin 0 → Fin S1792x1.rank)
  reducesTo_S1792x1_S_d0_1 : S1792x1.ReducesTo [0, 1] S_
  h_S_ : 0 < S_.numel
  bcast_S_S48x151936 : S_.BroadcastsInDim S48x151936 (![] : Fin 0 → Fin S48x151936.rank)
  reducesTo_S48x151936_S_d0_1 : S48x151936.ReducesTo [0, 1] S_

variable [Facts]

def fn {F : FTy → Type} [FloatOps F] (main_arg0 : FVec F S1792x1536 .bf16) (main_arg1 : IVec S1792x1 32) (main_arg2 : FVec F S1536x151936 .fp8e4m3) (main_arg3 : IVec S48x151936 8) : IVec S_ 1 :=
  let main_c : IVec S_ 32 := constantI S_ 32 151936#32
  let main_v0 : IVec S1792x1 32 := broadcastInDim S1792x1 ![] bcast_S_S1792x1 main_c
  let main_v1 : IVec S1792x1 1 := cmpi .slt main_arg1 main_v0
  let main_c_0 : IVec S_ 1 := constantI S_ 1 1#1
  let main_v2 : IVec S_ 1 := (fun x v => Host.reduce IntOp.andi x v reducesTo_S1792x1_S_d0_1 h_S_) main_v1 main_c_0
  let main_c_1 : IVec S_ 8 := constantI S_ 8 1#8
  let main_v3 : IVec S48x151936 8 := broadcastInDim S48x151936 ![] bcast_S_S48x151936 main_c_1
  let main_v4 : IVec S48x151936 1 := cmpi .uge main_arg3 main_v3
  let main_c_2 : IVec S_ 1 := constantI S_ 1 1#1
  let main_v5 : IVec S_ 1 := (fun x v => Host.reduce IntOp.andi x v reducesTo_S48x151936_S_d0_1 h_S_) main_v4 main_c_2
  let main_v6 : IVec S_ 1 := andi main_v2 main_v5
  let main_c_3 : IVec S_ 8 := constantI S_ 8 254#8
  let main_v7 : IVec S48x151936 8 := broadcastInDim S48x151936 ![] bcast_S_S48x151936 main_c_3
  let main_v8 : IVec S48x151936 1 := cmpi .ule main_arg3 main_v7
  let main_c_4 : IVec S_ 1 := constantI S_ 1 1#1
  let main_v9 : IVec S_ 1 := (fun x v => Host.reduce IntOp.andi x v reducesTo_S48x151936_S_d0_1 h_S_) main_v8 main_c_4
  let main_v10 : IVec S_ 1 := andi main_v6 main_v9
  main_v10
-- ==== Kernel.lean ====
abbrev S1792x1536 : Shape := ⟨2, ![1792, 1536]⟩
abbrev S1792x1 : Shape := ⟨2, ![1792, 1]⟩
abbrev S1536x151936 : Shape := ⟨2, ![1536, 151936]⟩
abbrev S48x151936 : Shape := ⟨2, ![48, 151936]⟩
abbrev S1536x512 : Shape := ⟨2, ![1536, 512]⟩
abbrev S48x512 : Shape := ⟨2, ![48, 512]⟩
abbrev S1792x128 : Shape := ⟨2, ![1792, 128]⟩
abbrev S32x512 : Shape := ⟨2, ![32, 512]⟩
abbrev S1x512 : Shape := ⟨2, ![1, 512]⟩
abbrev S16x512 : Shape := ⟨2, ![16, 512]⟩
abbrev S256x1536 : Shape := ⟨2, ![256, 1536]⟩
abbrev S256x512 : Shape := ⟨2, ![256, 512]⟩
abbrev S256x1 : Shape := ⟨2, ![256, 1]⟩
abbrev S256x128 : Shape := ⟨2, ![256, 128]⟩
abbrev S1792 : Shape := ⟨1, ![1792]⟩

abbrev nBuf : Space → Nat
  | .hbm => 6
  | .vmem => 13
  | .smem => 0
  | _ => 0

abbrev bufTy : (tb : Table) → Fin (tcTables nBuf tb) → BufTy
  | .hbm, ⟨0, _⟩ => ⟨S1792x1536, .bf16⟩
  | .hbm, ⟨1, _⟩ => ⟨S1792x1, .i32⟩
  | .hbm, ⟨2, _⟩ => ⟨S1536x151936, .fp8e4m3⟩
  | .hbm, ⟨3, _⟩ => ⟨S48x151936, .i8⟩
  | .hbm, ⟨4, _⟩ => ⟨S1792x1, .f32⟩
  | .hbm, ⟨5, _⟩ => ⟨S1792x1, .f32⟩
  | .local _ .vmem, ⟨0, _⟩ => ⟨S1792x1536, .bf16⟩
  | .local _ .vmem, ⟨1, _⟩ => ⟨S1792x1, .i32⟩
  | .local _ .vmem, ⟨2, _⟩ => ⟨S1536x512, .fp8e4m3⟩
  | .local _ .vmem, ⟨3, _⟩ => ⟨S1536x512, .fp8e4m3⟩
  | .local _ .vmem, ⟨4, _⟩ => ⟨S48x512, .i8⟩
  | .local _ .vmem, ⟨5, _⟩ => ⟨S48x512, .i8⟩
  | .local _ .vmem, ⟨6, _⟩ => ⟨S1792x1, .f32⟩
  | .local _ .vmem, ⟨7, _⟩ => ⟨S1792x1, .f32⟩
  | .local _ .vmem, ⟨8, _⟩ => ⟨S1536x512, .bf16⟩
  | .local _ .vmem, ⟨9, _⟩ => ⟨S48x512, .i32⟩
  | .local _ .vmem, ⟨10, _⟩ => ⟨S1792x128, .f32⟩
  | .local _ .vmem, ⟨11, _⟩ => ⟨S1792x128, .f32⟩
  | .local _ .vmem, ⟨12, _⟩ => ⟨S1792x128, .f32⟩
  | _, _ => ⟨S1792x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![297], ![false]⟩

def k0_cond2 (i : grid0.Coords) : BitVec 1 :=
  let arg0 : BitVec 32 := BitVec.ofNat 32 (i 0).val
  let c296_i32 : BitVec 32 := 296#32
  let v1040 : BitVec 1 := Scalar.cmpi .eq arg0 c296_i32
  let v1041 : BitVec 32 := Scalar.extui v1040
  let c0_i32_438 : BitVec 32 := 0#32
  let v1042 : BitVec 1 := Scalar.cmpi .ne v1041 c0_i32_438
  v1042

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1792x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1792x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1792x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S1792x1536 : Shape := ⟨2, ![1792, 1536]⟩
abbrev S1792x1 : Shape := ⟨2, ![1792, 1]⟩
abbrev S1536x151936 : Shape := ⟨2, ![1536, 151936]⟩
abbrev S48x151936 : Shape := ⟨2, ![48, 151936]⟩
abbrev S48x1x151936 : Shape := ⟨3, ![48, 1, 151936]⟩
abbrev S48x32x151936 : Shape := ⟨3, ![48, 32, 151936]⟩
abbrev S1792x151936 : Shape := ⟨2, ![1792, 151936]⟩
abbrev S1792 : Shape := ⟨1, ![1792]⟩

abbrev nBuf : Space → Nat
  | .hbm => 6
  | .vmem => 6
  | .smem => 0
  | _ => 0

abbrev bufTy : (tb : Table) → Fin (tcTables nBuf tb) → BufTy
  | .hbm, ⟨0, _⟩ => ⟨S1792x1536, .bf16⟩
  | .hbm, ⟨1, _⟩ => ⟨S1792x1, .i32⟩
  | .hbm, ⟨2, _⟩ => ⟨S1536x151936, .fp8e4m3⟩
  | .hbm, ⟨3, _⟩ => ⟨S48x151936, .i8⟩
  | .hbm, ⟨4, _⟩ => ⟨S1792x1, .f32⟩
  | .hbm, ⟨5, _⟩ => ⟨S1792x1, .f32⟩
  | .local _ .vmem, ⟨0, _⟩ => ⟨S1792x1536, .bf16⟩
  | .local _ .vmem, ⟨1, _⟩ => ⟨S1792x1, .i32⟩
  | .local _ .vmem, ⟨2, _⟩ => ⟨S1536x151936, .fp8e4m3⟩
  | .local _ .vmem, ⟨3, _⟩ => ⟨S48x151936, .i8⟩
  | .local _ .vmem, ⟨4, _⟩ => ⟨S1792x1, .f32⟩
  | .local _ .vmem, ⟨5, _⟩ => ⟨S1792x1, .f32⟩
  | _, _ => ⟨S1792x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1792x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x151936 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x151936 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1792x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Mlp.lean ====
abbrev S1792x1536 : Shape := ⟨2, ![1792, 1536]⟩
abbrev S1x1536 : Shape := ⟨2, ![1, 1536]⟩
abbrev S1536x8960 : Shape := ⟨2, ![1536, 8960]⟩
abbrev S48x8960 : Shape := ⟨2, ![48, 8960]⟩
abbrev S8960x1536 : Shape := ⟨2, ![8960, 1536]⟩
abbrev S280x1536 : Shape := ⟨2, ![280, 1536]⟩
abbrev S1792x48 : Shape := ⟨2, ![1792, 48]⟩
abbrev S1792x8960 : Shape := ⟨2, ![1792, 8960]⟩
abbrev S1792x280 : Shape := ⟨2, ![1792, 280]⟩
abbrev S1536x256 : Shape := ⟨2, ![1536, 256]⟩
abbrev S48x256 : Shape := ⟨2, ![48, 256]⟩
abbrev S256x1536 : Shape := ⟨2, ![256, 1536]⟩
abbrev S1792x256 : Shape := ⟨2, ![1792, 256]⟩
abbrev S1792x384 : Shape := ⟨2, ![1792, 384]⟩
abbrev S32x1536 : Shape := ⟨2, ![32, 1536]⟩
abbrev S32 : Shape := ⟨1, ![32]⟩
abbrev S32x1 : Shape := ⟨2, ![32, 1]⟩
abbrev S32x128 : Shape := ⟨2, ![32, 128]⟩
abbrev S32x128x1 : Shape := ⟨3, ![32, 128, 1]⟩
abbrev S32x48 : Shape := ⟨2, ![32, 48]⟩
abbrev S32x256 : Shape := ⟨2, ![32, 256]⟩
abbrev S1x256 : Shape := ⟨2, ![1, 256]⟩
abbrev S16x256 : Shape := ⟨2, ![16, 256]⟩
abbrev S8x1536 : Shape := ⟨2, ![8, 1536]⟩
abbrev S16x1536 : Shape := ⟨2, ![16, 1536]⟩
abbrev S256x256 : Shape := ⟨2, ![256, 256]⟩
abbrev S256x128 : Shape := ⟨2, ![256, 128]⟩
abbrev S256x128x1 : Shape := ⟨3, ![256, 128, 1]⟩
abbrev S32x384 : Shape := ⟨2, ![32, 384]⟩
abbrev S32x280 : Shape := ⟨2, ![32, 280]⟩

abbrev nBuf : Space → Nat
  | .hbm => 17
  | .vmem => 32
  | .smem => 0
  | _ => 0

abbrev bufTy : (tb : Table) → Fin (tcTables nBuf tb) → BufTy
  | .hbm, ⟨0, _⟩ => ⟨S1792x1536, .bf16⟩
  | .hbm, ⟨1, _⟩ => ⟨S1x1536, .f32⟩
  | .hbm, ⟨2, _⟩ => ⟨S1x1536, .f32⟩
  | .hbm, ⟨3, _⟩ => ⟨S1536x8960, .fp8e4m3⟩
  | .hbm, ⟨4, _⟩ => ⟨S48x8960, .i8⟩
  | .hbm, ⟨5, _⟩ => ⟨S1536x8960, .fp8e4m3⟩
  | .hbm, ⟨6, _⟩ => ⟨S48x8960, .i8⟩
  | .hbm, ⟨7, _⟩ => ⟨S8960x1536, .fp8e4m3⟩
  | .hbm, ⟨8, _⟩ => ⟨S280x1536, .i8⟩
  | .hbm, ⟨9, _⟩ => ⟨S1792x1536, .fp8e4m3⟩
  | .hbm, ⟨10, _⟩ => ⟨S1792x48, .f32⟩
  | .hbm, ⟨11, _⟩ => ⟨S1792x8960, .fp8e4m3⟩
  | .hbm, ⟨12, _⟩ => ⟨S1792x280, .f32⟩
  | .hbm, ⟨13, _⟩ => ⟨S1792x1536, .bf16⟩
  | .hbm, ⟨14, _⟩ => ⟨S1792x1536, .fp8e4m3⟩
  | .hbm, ⟨15, _⟩ => ⟨S1792x48, .f32⟩
  | .hbm, ⟨16, _⟩ => ⟨S1792x1536, .bf16⟩
  | .local _ .vmem, ⟨0, _⟩ => ⟨S1792x1536, .bf16⟩
  | .local _ .vmem, ⟨1, _⟩ => ⟨S1x1536, .f32⟩
  | .local _ .vmem, ⟨2, _⟩ => ⟨S1x1536, .f32⟩
  | .local _ .vmem, ⟨3, _⟩ => ⟨S280x1536, .i8⟩
  | .local _ .vmem, ⟨4, _⟩ => ⟨S1536x256, .fp8e4m3⟩
  | .local _ .vmem, ⟨5, _⟩ => ⟨S1536x256, .fp8e4m3⟩
  | .local _ .vmem, ⟨6, _⟩ => ⟨S48x256, .i8⟩
  | .local _ .vmem, ⟨7, _⟩ => ⟨S48x256, .i8⟩
  | .local _ .vmem, ⟨8, _⟩ => ⟨S1536x256, .fp8e4m3⟩
  | .local _ .vmem, ⟨9, _⟩ => ⟨S1536x256, .fp8e4m3⟩
  | .local _ .vmem, ⟨10, _⟩ => ⟨S48x256, .i8⟩
  | .local _ .vmem, ⟨11, _⟩ => ⟨S48x256, .i8⟩
  | .local _ .vmem, ⟨12, _⟩ => ⟨S256x1536, .fp8e4m3⟩
  | .local _ .vmem, ⟨13, _⟩ => ⟨S256x1536, .fp8e4m3⟩
  | .local _ .vmem, ⟨14, _⟩ => ⟨S1792x1536, .fp8e4m3⟩
  | .local _ .vmem, ⟨15, _⟩ => ⟨S1792x48, .f32⟩
  | .local _ .vmem, ⟨16, _⟩ => ⟨S1792x256, .fp8e4m3⟩
  | .local _ .vmem, ⟨17, _⟩ => ⟨S1792x256, .fp8e4m3⟩
  | .local _ .vmem, ⟨18, _⟩ => ⟨S1792x280, .f32⟩
  | .local _ .vmem, ⟨19, _⟩ => ⟨S1792x1536, .bf16⟩
  | .local _ .vmem, ⟨20, _⟩ => ⟨S1792x1536, .fp8e4m3⟩
  | .local _ .vmem, ⟨21, _⟩ => ⟨S1792x48, .f32⟩
  | .local _ .vmem, ⟨22, _⟩ => ⟨S1792x1536, .bf16⟩
  | .local _ .vmem, ⟨23, _⟩ => ⟨S1792x1536, .bf16⟩
  | .local _ .vmem, ⟨24, _⟩ => ⟨S1792x1536, .f32⟩
  | .local _ .vmem, ⟨25, _⟩ => ⟨S1536x256, .bf16⟩
  | .local _ .vmem, ⟨26, _⟩ => ⟨S1536x256, .bf16⟩
  | .local _ .vmem, ⟨27, _⟩ => ⟨S256x1536, .bf16⟩
  | .local _ .vmem, ⟨28, _⟩ => ⟨S48x256, .i32⟩
  | .local _ .vmem, ⟨29, _⟩ => ⟨S48x256, .i32⟩
  | .local _ .vmem, ⟨30, _⟩ => ⟨S280x1536, .i32⟩
  | .local _ .vmem, ⟨31, _⟩ => ⟨S1792x384, .f32⟩
  | _, _ => ⟨S1792x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![35], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1246 : BitVec 32 := 0#32
  let c56_i32 : BitVec 32 := 56#32
  let v3406 : BitVec 32 := Scalar.addi c0_i32_1246 c56_i32
  let c1_i32_1247 : BitVec 32 := 1#32
  ⟨c0_i32_1246, v3406, c1_i32_1247⟩
def k0_mult1 (k0_t1 : Fin k0_t1_loop.trips) : BitVec 32 :=
  let c0_i32_1246 : BitVec 32 := 0#32
  let c1_i32_1247 : BitVec 32 := 1#32
  let arg27 : BitVec 32 := Scf.iv c0_i32_1246 c1_i32_1247 k0_t1
  let c32_i32_1249 : BitVec 32 := 32#32
  let v3407 : BitVec 32 := Scalar.muli arg27 c32_i32_1249
  v3407
def k0_off1 (k0_t1 : Fin k0_t1_loop.trips) : Fin 2 → Nat :=
  let c0_i32_1246 : BitVec 32 := 0#32
  let c1_i32_1247 : BitVec 32 := 1#32
  let arg27 : BitVec 32 := Scf.iv c0_i32_1246 c1_i32_1247 k0_t1
  let c32_i32_1249 : BitVec 32 := 32#32
  let v3407 : BitVec 32 := Scalar.muli arg27 c32_i32_1249
  let v3408 : BitVec 32 := v3407
  let v3409 : Index := Scalar.indexCast v3408
  let c0_1250 : Index := 0#32
  ![v3409.toNat, 0]
def k0_off2 (k0_t1 : Fin k0_t1_loop.trips) : Fin 2 → Nat :=
  let c0_i32_1246 : BitVec 32 := 0#32
  let c1_i32_1247 : BitVec 32 := 1#32
  let arg27 : BitVec 32 := Scf.iv c0_i32_1246 c1_i32_1247 k0_t1
  let c32_i32_1249 : BitVec 32 := 32#32
  let v3407 : BitVec 32 := Scalar.muli arg27 c32_i32_1249
  let v3408 : BitVec 32 := v3407
  let v5187 : Index := Scalar.indexCast v3408
  let c0_1733 : Index := 0#32
  ![v5187.toNat, 0]
def k0_mult2 (i : grid0.Coords) : BitVec 32 :=
  let arg0 : BitVec 32 := BitVec.ofNat 32 (i 0).val
  let c8_i32 : BitVec 32 := 8#32
  let v983 : BitVec 32 := Scalar.muli arg0 c8_i32
  v983
def k0_off3 (i : grid0.Coords) : Fin 2 → Nat :=
  let arg0 : BitVec 32 := BitVec.ofNat 32 (i 0).val
  let c8_i32 : BitVec 32 := 8#32
  let v983 : BitVec 32 := Scalar.muli arg0 c8_i32
  let v984 : BitVec 32 := v983
  let v985 : Index := Scalar.indexCast v984
  let c0_493 : Index := 0#32
  ![v985.toNat, 0]
def k0_mult3 (i : grid0.Coords) : BitVec 32 :=
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  v1084
def k0_off4 (i : grid0.Coords) : Fin 2 → Nat :=
  let c0_625 : Index := 0#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v1410 : Index := Scalar.indexCast v1085
  ![0, v1410.toNat]
def k0_off5 (i : grid0.Coords) : Fin 2 → Nat :=
  let c256_726 : Index := 256#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v1738 : Index := Scalar.indexCast v1085
  ![256, v1738.toNat]
def k0_off6 (i : grid0.Coords) : Fin 2 → Nat :=
  let c512_827 : Index := 512#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v2066 : Index := Scalar.indexCast v1085
  ![512, v2066.toNat]
def k0_off7 (i : grid0.Coords) : Fin 2 → Nat :=
  let c768_928 : Index := 768#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v2394 : Index := Scalar.indexCast v1085
  ![768, v2394.toNat]
def k0_off8 (i : grid0.Coords) : Fin 2 → Nat :=
  let c1024_1029 : Index := 1024#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v2722 : Index := Scalar.indexCast v1085
  ![1024, v2722.toNat]
def k0_off9 (i : grid0.Coords) : Fin 2 → Nat :=
  let c1280_1130 : Index := 1280#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v3050 : Index := Scalar.indexCast v1085
  ![1280, v3050.toNat]
def k0_off10 (i : grid0.Coords) : Fin 2 → Nat :=
  let c1536_1230 : Index := 1536#32
  let arg0 : BitVec 32 := BitVec.ofNat 32 (i 0).val
  let c0_i32_526 : BitVec 32 := 0#32
  let v1068 : BitVec 1 := Scalar.cmpi .sgt arg0 c0_i32_526
  let v1069 : BitVec 32 := Scalar.extui v1068
  let c0_i32_527 : BitVec 32 := 0#32
  let v1070 : BitVec 1 := Scalar.cmpi .slt arg0 c0_i32_527
  let v1071 : BitVec 32 := Scalar.extui v1070
  let v1072 : BitVec 32 := Scalar.subi v1069 v1071
  let c16_i32 : BitVec 32 := 16#32
  let c0_i32_528 : BitVec 32 := 0#32
  let v1073 : BitVec 1 := Scalar.cmpi .sgt c16_i32 c0_i32_528
  let v1074 : BitVec 32 := Scalar.extui v1073
  let c0_i32_529 : BitVec 32 := 0#32
  let v1075 : BitVec 1 := Scalar.cmpi .slt c16_i32 c0_i32_529
  let v1076 : BitVec 32 := Scalar.extui v1075
  let v1077 : BitVec 32 := Scalar.subi v1074 v1076
  let v1078 : BitVec 1 := Scalar.cmpi .ne v1072 v1077
  let v1079 : BitVec 32 := Scalar.remsi arg0 c16_i32
  let c0_i32_530 : BitVec 32 := 0#32
  let v1080 : BitVec 1 := Scalar.cmpi .ne v1079 c0_i32_530
  let v1081 : BitVec 1 := Scalar.andi v1078 v1080
  let v1067 : BitVec 32 := Scalar.divsi arg0 c16_i32
  let c1_i32 : BitVec 32 := 1#32
  let v1082 : BitVec 32 := Scalar.subi v1067 c1_i32
  let v1083 : BitVec 32 := Scalar.select v1081 v1082 v1067
  let c128_i32 : BitVec 32 := 128#32
  let v1084 : BitVec 32 := Scalar.muli v1083 c128_i32
  let v1085 : BitVec 32 := v1084
  let v3378 : Index := Scalar.indexCast v1085
  ![1536, v3378.toNat]
def k0_cond2 (i : grid0.Coords) : BitVec 1 :=
  let arg0 : BitVec 32 := BitVec.ofNat 32 (i 0).val
  let c34_i32 : BitVec 32 := 34#32
  let v3393 : BitVec 1 := Scalar.cmpi .eq arg0 c34_i32
  let v3394 : BitVec 32 := Scalar.extui v3393
  let c0_i32_1239 : BitVec 32 := 0#32
  let v3395 : BitVec 1 := Scalar.cmpi .ne v3394 c0_i32_1239
  v3395

@[reducible] def k0_t2_loop : Scf.Loop 32 :=
  let c0_i32_1240 : BitVec 32 := 0#32
  let c56_i32 : BitVec 32 := 56#32
  let v3396 : BitVec 32 := Scalar.addi c0_i32_1240 c56_i32
  let c1_i32_1241 : BitVec 32 := 1#32
  ⟨c0_i32_1240, v3396, c1_i32_1241⟩
def k0_mult4 (k0_t2 : Fin k0_t2_loop.trips) : BitVec 32 :=
  let c0_i32_1240 : BitVec 32 := 0#32
  let c1_i32_1241 : BitVec 32 := 1#32
  let arg27 : BitVec 32 := Scf.iv c0_i32_1240 c1_i32_1241 k0_t2
  let c32_i32_1243 : BitVec 32 := 32#32
  let v3397 : BitVec 32 := Scalar.muli arg27 c32_i32_1243
  v3397
def k0_off11 (k0_t2 : Fin k0_t2_loop.trips) : Fin 2 → Nat :=
  let c0_i32_1240 : BitVec 32 := 0#32
  let c1_i32_1241 : BitVec 32 := 1#32
  let arg27 : BitVec 32 := Scf.iv c0_i32_1240 c1_i32_1241 k0_t2
  let c32_i32_1243 : BitVec 32 := 32#32
  let v3397 : BitVec 32 := Scalar.muli arg27 c32_i32_1243
  let v3398 : BitVec 32 := v3397
  let v3399 : Index := Scalar.indexCast v3398
  let c0_1244 : Index := 0#32
  ![v3399.toNat, 0]
def k0_off12 (k0_t2 : Fin k0_t2_loop.trips) : Fin 2 → Nat :=
  let c0_i32_1240 : BitVec 32 := 0#32
  let c1_i32_1241 : BitVec 32 := 1#32
  let arg27 : BitVec 32 := Scf.iv c0_i32_1240 c1_i32_1241 k0_t2
  let c32_i32_1243 : BitVec 32 := 32#32
  let v3397 : BitVec 32 := Scalar.muli arg27 c32_i32_1243
  let v3398 : BitVec 32 := v3397
  let v5182 : Index := Scalar.indexCast v3398
  let c0_1729 : Index := 0#32
  ![v5182.toNat, 0]
def k0_off13 (k0_t2 : Fin k0_t2_loop.trips) : Fin 2 → Nat :=
  let c0_i32_1240 : BitVec 32 := 0#32
  let c1_i32_1241 : BitVec 32 := 1#32
  let arg27 : BitVec 32 := Scf.iv c0_i32_1240 c1_i32_1241 k0_t2
  let c32_i32_1243 : BitVec 32 := 32#32
  let v3397 : BitVec 32 := Scalar.muli arg27 c32_i32_1243
  let v3398 : BitVec 32 := v3397
  let v5184 : Index := Scalar.indexCast v3398
  let c0_1730 : Index := 0#32
  ![v5184.toNat, 0]
def k0_off14 (k0_t2 : Fin k0_t2_loop.trips) : Fin 2 → Nat :=
  let c0_i32_1240 : BitVec 32 := 0#32
  let c1_i32_1241 : BitVec 32 := 1#32
  let arg27 : BitVec 32 := Scf.iv c0_i32_1240 c1_i32_1241 k0_t2
  let c32_i32_1243 : BitVec 32 := 32#32
  let v3397 : BitVec 32 := Scalar.muli arg27 c32_i32_1243
  let v3398 : BitVec 32 := v3397
  let v5187 : Index := Scalar.indexCast v3398
  let c0_1731 : Index := 0#32
  ![v5187.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1792x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S280x1536 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1536x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S48x256 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S48x256 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1792x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1792x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1792x256 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1792x280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1792x1536 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1792x1536 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1792x48 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1792x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MlpIdeal.lean ====
variable {F : FTy → Type} [FloatOps F] [Named F]
def κ : String → Option EReal := fun
  | "mean" => some ((1 / 1536 : ℝ) : EReal)
  | _ => none
-- ==== NormIdeal.lean ====
abbrev S1792x1536 : Shape := ⟨2, ![1792, 1536]⟩
abbrev S1x1536 : Shape := ⟨2, ![1, 1536]⟩
abbrev S1536x8960 : Shape := ⟨2, ![1536, 8960]⟩
abbrev S48x8960 : Shape := ⟨2, ![48, 8960]⟩
abbrev S8960x1536 : Shape := ⟨2, ![8960, 1536]⟩
abbrev S280x1536 : Shape := ⟨2, ![280, 1536]⟩
abbrev S1792x48 : Shape := ⟨2, ![1792, 48]⟩
abbrev S1792 : Shape := ⟨1, ![1792]⟩
abbrev S1792x1 : Shape := ⟨2, ![1792, 1]⟩
abbrev S1792x48x32 : Shape := ⟨3, ![1792, 48, 32]⟩
abbrev S1792x48x1 : Shape := ⟨3, ![1792, 48, 1]⟩

abbrev nBuf : Space → Nat
  | .hbm => 11
  | .vmem => 4
  | .smem => 0
  | _ => 0

abbrev bufTy : (tb : Table) → Fin (tcTables nBuf tb) → BufTy
  | .hbm, ⟨0, _⟩ => ⟨S1792x1536, .bf16⟩
  | .hbm, ⟨1, _⟩ => ⟨S1x1536, .f32⟩
  | .hbm, ⟨2, _⟩ => ⟨S1x1536, .f32⟩
  | .hbm, ⟨3, _⟩ => ⟨S1536x8960, .fp8e4m3⟩
  | .hbm, ⟨4, _⟩ => ⟨S48x8960, .i8⟩
  | .hbm, ⟨5, _⟩ => ⟨S1536x8960, .fp8e4m3⟩
  | .hbm, ⟨6, _⟩ => ⟨S48x8960, .i8⟩
  | .hbm, ⟨7, _⟩ => ⟨S8960x1536, .fp8e4m3⟩
  | .hbm, ⟨8, _⟩ => ⟨S280x1536, .i8⟩
  | .hbm, ⟨9, _⟩ => ⟨S1792x1536, .fp8e4m3⟩
  | .hbm, ⟨10, _⟩ => ⟨S1792x48, .f32⟩
  | .local _ .vmem, ⟨0, _⟩ => ⟨S1792x1536, .bf16⟩
  | .local _ .vmem, ⟨1, _⟩ => ⟨S1x1536, .f32⟩
  | .local _ .vmem, ⟨2, _⟩ => ⟨S1792x1536, .fp8e4m3⟩
  | .local _ .vmem, ⟨3, _⟩ => ⟨S1792x48, .f32⟩
  | _, _ => ⟨S1792x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S1792x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.FrameKernel.lean ====
/-
  The frame of `Kernel` (untrusted, hand-written): every execution of the head's call terminates without a fault, its argument
  arrays end unchanged, every semaphore counter ends at zero. The body is run once, at arbitrary contents of all its buffers
  (`sound_any`); no window's contents are named (the launch theorem FORGETS all six), since the frame reads only the
  input arrays, which the pipeline never writes. Stated at any instance of the floats.
-/
module

public import proofs.«01_k».proof.Proof.Gen.Kernel.Frame
public import proofs.«01_k».proof.Proof.Gen.Kernel.Skeleton
public import Idealize.ShloMosaic.Lib.Claim

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The body, on whole buffers at any contents, gives them back at some contents: both guarded regions (the first and the
    last point's) taken or not. -/
theorem sound_any (c : Dev nD) (E : Set ℕ) (i : grid0.Coords) (arg1 : Memref sig .tc .vmem S1792x1536 .bf16) (harg1 : arg1.IsWhole) (arg2 : Memref sig .tc .vmem S1792x1 .i32) (harg2 : arg2.IsWhole) (arg3 : Memref sig .tc .vmem S1536x512 .fp8e4m3) (harg3 : arg3.IsWhole) (arg4 : Memref sig .tc .vmem S48x512 .i8) (harg4 : arg4.IsWhole) (arg5 : Memref sig .tc .vmem S1792x1 .f32) (harg5 : arg5.IsWhole) (arg6 : Memref sig .tc .vmem S1792x1 .f32) (harg6 : arg6.IsWhole) (arg7 : Memref sig .tc .vmem S1536x512 .bf16) (harg7 : arg7.IsWhole) (arg8 : Memref sig .tc .vmem S48x512 .i32) (harg8 : arg8.IsWhole) (arg9 : Memref sig .tc .vmem S1792x128 .f32) (harg9 : arg9.IsWhole) (arg10 : Memref sig .tc .vmem S1792x128 .f32) (harg10 : arg10.IsWhole) (arg11 : Memref sig .tc .vmem S1792x128 .f32) (harg11 : arg11.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K := by
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec_parts!
  sl_step
  iapply Hk
  isplitl [H1]
  · iexists _, _; isplitr
    swap
    · iexact H1
    · ipureintro; rfl
  isplitl [H2]
  · iexists _, _; isplitr
    swap
    · iexact H2
    · ipureintro; rfl
  isplitl [H3]
  · iexists _, _; isplitr
    swap
    · iexact H3
    · ipureintro; rfl
  isplitl [H4]
  · iexists _, _; isplitr
    swap
    · iexact H4
    · ipureintro; rfl
  isplitl [H5]
  · iexists _, _; isplitr
    swap
    · iexact H5
    · ipureintro; rfl
  isplitl [H6]
  · iexists _, _; isplitr
    swap
    · iexact H6
    · ipureintro; rfl
  isplitl [H7]
  · iexists _, _; isplitr
    swap
    · iexact H7
    · ipureintro; rfl
  isplitl [H8]
  · iexists _, _; isplitr
    swap
    · iexact H8
    · ipureintro; rfl
  isplitl [H9]
  · iexists _, _; isplitr
    swap
    · iexact H9
    · ipureintro; rfl
  isplitl [H10]
  · iexists _, _; isplitr
    swap
    · iexact H10
    · ipureintro; rfl
  iexists _, _; isplitr
  swap
  · iexact H11
  · ipureintro; rfl

variable (m : (ℓ : Loc nD τ sig) → Buf (Elt F) ℓ) (ρ : Dev nD → PrngReg)

/-- The proof data of the frame: the arrays as launched, nothing said of what the body leaves (every window is forgotten). -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem datsAny_A (c : Dev nD) (w : Fin cfg0.W) : (datsAny m 0 c).A w = V m c (Pipeline.arrRef spec0 w) := by
  dsimp only [datsAny]

/-- What the body is called with at point `t`, and what it returns. -/
def bodyAny (c : Dev nD) (t : Fin cfg0.N) : sProp 𝕄 :=
  iprop(Pipeline.ΦA spec0 c ∗ (datsAny m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d))

theorem sound_bodyAny (c : Dev nD) (t : Fin cfg0.N) :
    bodyAny m c t ⊢ wp frame (wpE (defs₀ (F := F)) Variants.none c none) Set.univ (bodyAt0 t) (fun _ => bodyAny m c t) := by
  unfold bodyAny bodyAt0 Pipeline.ΦA
  rw [scopedRest0_eq]
  simp only [← owns_whole]
  iintro ⟨⟨⟨Hs0, Hs1, Hs2, Hs3, Hs4⟩, Hp⟩, Ho, Ht0, Ht1, Ht2, Ht3, Ht4, Ht5⟩
  iapply (sound_any c Set.univ (grid0.coords t) _ _ _ _ _ _ _ _ _ _ _ _ _ _ _ _ _ _ _ _ _ _ _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hs0]; · iexact Hs0
  isplitl [Hs1]; · iexact Hs1
  isplitl [Hs2]; · iexact Hs2
  isplitl [Hs3]; · iexact Hs3
  isplitl [Hs4]; · iexact Hs4
  iintro ⟨Ht0, Ht1, Ht2, Ht3, Ht4, Ht5, Hs0, Hs1, Hs2, Hs3, Hs4⟩
  isplitl [Hs0 Hs1 Hs2 Hs3 Hs4 Hp]
  · isplitr [Hp]
    · isplitl [Hs0]; · iexact Hs0
      isplitl [Hs1]; · iexact Hs1
      isplitl [Hs2]; · iexact Hs2
      isplitl [Hs3]; · iexact Hs3
      iexact Hs4
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  iexact Ht5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem obligationAny (c : Dev nD) :
    BodyObligationLoose (datsAny (F := F) m 0 c) (defs₀ (F := F)) Variants.none () Set.univ (fun _ => true) := fun t => by
  rw [bigSep_W0, defs₀_row]
  exact triple_restated (sound_bodyAny m c t) rfl .rfl fun _ => .rfl

set_option backward.isDefEq.respectTransparency.types false in
/-- The launch, every window forgotten. -/
theorem runAny : θ_run defs (onTc (τ := τ) (main (F := F))) (s₀ m ρ)
    (fun r => (Pipeline.RDat.FramePost (cfgs 0) (fun c => (datsAny m 0 c).toRForget fun _ => true) (V m)) r ∧ r.2.sem = fun _ => 0) :=
  Pipeline.θ_run_frame_forget (Q' := _) cfgs (datsAny m) (0 : Fin 1) launch0 defs₀ Variants.none (fun _ => true) m ρ main
    (hbody := fun c => obligationAny m c) (hshare := fun c => (datsAny m 0 c).share_full fun _ => rfl)
    (howed := fun _ _ => rfl) (V := V m) (hmain := hmain m Variants.none) (hA := datsAny_A m) (hΦ := fun _ _ => rfl)

/-- THE FRAME, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(Pipeline.RDat.FramePost.arr_in h.1 c 0 rfl).trans (datsAny_A m c 0),
       (Pipeline.RDat.FramePost.arr_in h.1 c 1 rfl).trans (datsAny_A m c 1),
       (Pipeline.RDat.FramePost.arr_in h.1 c 2 rfl).trans (datsAny_A m c 2),
       (Pipeline.RDat.FramePost.arr_in h.1 c 3 rfl).trans (datsAny_A m c 3)⟩, h.2⟩) (runAny m ρ)

end Cert.Proof.Kernel

end
-- ==== Proof.FrameKernelIdeal.lean ====
/-
  The frame of `KernelIdeal` (untrusted, hand-written): every execution of the head's call terminates without a fault, its argument
  arrays end unchanged, every semaphore counter ends at zero. The body is run once, at arbitrary contents of all its buffers
  (`sound_any`); no window's contents are named (the launch theorem FORGETS all six), since the frame reads only the
  input arrays, which the pipeline never writes. Stated at any instance of the floats.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- The body, on whole buffers at any contents, gives them back at some contents: both guarded regions (the first and the
    last point's) taken or not. -/
theorem sound_any (c : Dev nD) (E : Set ℕ) (i : grid0.Coords) (arg1 : Memref sig .tc .vmem S1792x1536 .bf16) (harg1 : arg1.IsWhole) (arg2 : Memref sig .tc .vmem S1792x1 .i32) (harg2 : arg2.IsWhole) (arg3 : Memref sig .tc .vmem S1536x512 .fp8e4m3) (harg3 : arg3.IsWhole) (arg4 : Memref sig .tc .vmem S48x512 .i8) (harg4 : arg4.IsWhole) (arg5 : Memref sig .tc .vmem S1792x1 .f32) (harg5 : arg5.IsWhole) (arg6 : Memref sig .tc .vmem S1792x1 .f32) (harg6 : arg6.IsWhole) (arg7 : Memref sig .tc .vmem S1536x512 .bf16) (harg7 : arg7.IsWhole) (arg8 : Memref sig .tc .vmem S48x512 .i32) (harg8 : arg8.IsWhole) (arg9 : Memref sig .tc .vmem S1792x128 .f32) (harg9 : arg9.IsWhole) (arg10 : Memref sig .tc .vmem S1792x128 .f32) (harg10 : arg10.IsWhole) (arg11 : Memref sig .tc .vmem S1792x128 .f32) (harg11 : arg11.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K := by
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_exec_parts!
  sl_step
  iapply Hk
  isplitl [H1]
  · iexists _, _; isplitr
    swap
    · iexact H1
    · ipureintro; rfl
  isplitl [H2]
  · iexists _, _; isplitr
    swap
    · iexact H2
    · ipureintro; rfl
  isplitl [H3]
  · iexists _, _; isplitr
    swap
    · iexact H3
    · ipureintro; rfl
  isplitl [H4]
  · iexists _, _; isplitr
    swap
    · iexact H4
    · ipureintro; rfl
  isplitl [H5]
  · iexists _, _; isplitr
    swap
    · iexact H5
    · ipureintro; rfl
  isplitl [H6]
  · iexists _, _; isplitr
    swap
    · iexact H6
    · ipureintro; rfl
  isplitl [H7]
  · iexists _, _; isplitr
    swap
    · iexact H7
    · ipureintro; rfl
  isplitl [H8]
  · iexists _, _; isplitr
    swap
    · iexact H8
    · ipureintro; rfl
  isplitl [H9]
  · iexists _, _; isplitr
    swap
    · iexact H9
    · ipureintro; rfl
  isplitl [H10]
  · iexists _, _; isplitr
    swap
    · iexact H10
    · ipureintro; rfl
  iexists _, _; isplitr
  swap
  · iexact H11
  · ipureintro; rfl

variable (m : (ℓ : Loc nD τ sig) → Buf (Elt F) ℓ) (ρ : Dev nD → PrngReg)

/-- The proof data of the frame: the arrays as launched, nothing said of what the body leaves (every window is forgotten). -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem datsAny_A (c : Dev nD) (w : Fin cfg0.W) : (datsAny m 0 c).A w = V m c (Pipeline.arrRef spec0 w) := by
  dsimp only [datsAny]

/-- What the body is called with at point `t`, and what it returns. -/
def bodyAny (c : Dev nD) (t : Fin cfg0.N) : sProp 𝕄 :=
  iprop(Pipeline.ΦA spec0 c ∗ (datsAny m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d))

theorem sound_bodyAny (c : Dev nD) (t : Fin cfg0.N) :
    bodyAny m c t ⊢ wp frame (wpE (defs₀ (F := F)) Variants.none c none) Set.univ (bodyAt0 t) (fun _ => bodyAny m c t) := by
  unfold bodyAny bodyAt0 Pipeline.ΦA
  rw [scopedRest0_eq]
  simp only [← owns_whole]
  iintro ⟨⟨⟨Hs0, Hs1, Hs2, Hs3, Hs4⟩, Hp⟩, Ho, Ht0, Ht1, Ht2, Ht3, Ht4, Ht5⟩
  iapply (sound_any c Set.univ (grid0.coords t) _ _ _ _ _ _ _ _ _ _ _ _ _ _ _ _ _ _ _ _ _ _ _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Hs0]; · iexact Hs0
  isplitl [Hs1]; · iexact Hs1
  isplitl [Hs2]; · iexact Hs2
  isplitl [Hs3]; · iexact Hs3
  isplitl [Hs4]; · iexact Hs4
  iintro ⟨Ht0, Ht1, Ht2, Ht3, Ht4, Ht5, Hs0, Hs1, Hs2, Hs3, Hs4⟩
  isplitl [Hs0 Hs1 Hs2 Hs3 Hs4 Hp]
  · isplitr [Hp]
    · isplitl [Hs0]; · iexact Hs0
      isplitl [Hs1]; · iexact Hs1
      isplitl [Hs2]; · iexact Hs2
      isplitl [Hs3]; · iexact Hs3
      iexact Hs4
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  iexact Ht5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem obligationAny (c : Dev nD) :
    BodyObligationLoose (datsAny (F := F) m 0 c) (defs₀ (F := F)) Variants.none () Set.univ (fun _ => true) := fun t => by
  rw [bigSep_W0, defs₀_row]
  exact triple_restated (sound_bodyAny m c t) rfl .rfl fun _ => .rfl

set_option backward.isDefEq.respectTransparency.types false in
/-- The launch, every window forgotten. -/
theorem runAny : θ_run defs (onTc (τ := τ) (main (F := F))) (s₀ m ρ)
    (fun r => (Pipeline.RDat.FramePost (cfgs 0) (fun c => (datsAny m 0 c).toRForget fun _ => true) (V m)) r ∧ r.2.sem = fun _ => 0) :=
  Pipeline.θ_run_frame_forget (Q' := _) cfgs (datsAny m) (0 : Fin 1) launch0 defs₀ Variants.none (fun _ => true) m ρ main
    (hbody := fun c => obligationAny m c) (hshare := fun c => (datsAny m 0 c).share_full fun _ => rfl)
    (howed := fun _ _ => rfl) (V := V m) (hmain := hmain m Variants.none) (hA := datsAny_A m) (hΦ := fun _ _ => rfl)

/-- THE FRAME, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(Pipeline.RDat.FramePost.arr_in h.1 c 0 rfl).trans (datsAny_A m c 0),
       (Pipeline.RDat.FramePost.arr_in h.1 c 1 rfl).trans (datsAny_A m c 1),
       (Pipeline.RDat.FramePost.arr_in h.1 c 2 rfl).trans (datsAny_A m c 2),
       (Pipeline.RDat.FramePost.arr_in h.1 c 3 rfl).trans (datsAny_A m c 3)⟩, h.2⟩) (runAny m ρ)

end Cert.Proof.KernelIdeal

end
-- ==== Proof.Body.lean ====
/-
  The body of `KernelIdeal`'s one call, run once and its results NAMED (untrusted, hand-written), at any instance of the floats:
  what a grid point leaves in the running maximum, the running sum, the target's logit and, at the last point, the two
  results, as functions of what it found. The seven row chunks and the forty-eight scale blocks are each ONE family, by index.
-/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-! ## The families of rectangles -/

theorem inbRows (k : Fin 7) : ∀ a, (![256 * (6 - k.val), 0] : Fin 2 → Nat) a + S256x1536.size a ≤ S1792x1536.size a := by
  have := k.isLt; intro a; fin_cases a <;> simp <;> omega
theorem inbTgt (k : Fin 7) : ∀ a, (![256 * (6 - k.val), 0] : Fin 2 → Nat) a + S256x1.size a ≤ S1792x1.size a := by
  have := k.isLt; intro a; fin_cases a <;> simp <;> omega
theorem inbLane (k : Fin 7) : ∀ a, (![256 * (6 - k.val), 0] : Fin 2 → Nat) a + S256x128.size a ≤ S1792x128.size a := by
  have := k.isLt; intro a; fin_cases a <;> simp <;> omega
theorem inbW (b : Fin 48) : ∀ a, (![32 * (47 - b.val), 0] : Fin 2 → Nat) a + S32x512.size a ≤ S1536x512.size a := by
  have := b.isLt; intro a; fin_cases a <;> simp <;> omega
theorem inbS (b : Fin 48) : ∀ a, (![47 - b.val, 0] : Fin 2 → Nat) a + S1x512.size a ≤ S48x512.size a := by
  have := b.isLt; intro a; fin_cases a <;> simp <;> omega

/-- Rows `256·(6−k) …` of the rows, of the targets and of a lane scratch (the family counts from the last chunk stored), -/
abbrev rRows (k : Fin 7) : Rect S1792x1536 := Rect.unit (s := S1792x1536) ![256 * (6 - k.val), 0] S256x1536.size (inbRows k)
abbrev rTgt (k : Fin 7) : Rect S1792x1 := Rect.unit (s := S1792x1) ![256 * (6 - k.val), 0] S256x1.size (inbTgt k)
abbrev rLane (k : Fin 7) : Rect S1792x128 := Rect.unit (s := S1792x128) ![256 * (6 - k.val), 0] S256x128.size (inbLane k)
/-- and scale block `47−b`: its thirty-two weight rows, its row of scales. -/
abbrev rW (b : Fin 48) : Rect S1536x512 := Rect.unit (s := S1536x512) ![32 * (47 - b.val), 0] S32x512.size (inbW b)
abbrev rS (b : Fin 48) : Rect S48x512 := Rect.unit (s := S48x512) ![47 - b.val, 0] S1x512.size (inbS b)

/-! ## What a grid point computes -/

/-- The weight tile widened and scaled, block by block. -/
def piecesW (x3 : Vec F S1536x512 .fp8e4m3) (ws : Vec F S48x512 .i32) : List (View.Piece (Elt F) S1536x512 .bf16) :=
  List.ofFn fun b : Fin 48 => ⟨rW b, k0_pay8 (View.ld x3 (rW b)) (View.ld ws (rS b))⟩
def wbOf (x3 : Vec F S1536x512 .fp8e4m3) (x4 : Vec F S48x512 .i8) : Vec F S1536x512 .bf16 :=
  View.canon (piecesW x3 (k0_pay7 x4))

/-- One chunk's new maximum, sum and target logit, from its rows `a`, the weight tile `w`, and what it held before. -/
def chunkM (i : BitVec 32) (a : Vec F S256x1536 .bf16) (w : Vec F S1536x512 .bf16) (mo : Vec F S256x128 .f32) : Vec F S256x128 .f32 :=
  k0_pay76 (k0_pay70 i a w) (k0_pay71 i a w) (k0_pay72 i a w) (k0_pay73 i a w mo)
def chunkL (i : BitVec 32) (a : Vec F S256x1536 .bf16) (w : Vec F S1536x512 .bf16) (mo lo : Vec F S256x128 .f32) : Vec F S256x128 .f32 :=
  k0_pay77 (k0_pay69 i a w) (k0_pay70 i a w) (k0_pay71 i a w) (k0_pay72 i a w) mo (k0_pay73 i a w mo) lo
def chunkZ (i : BitVec 32) (a : Vec F S256x1536 .bf16) (tg : Vec F S256x1 .i32) (w : Vec F S1536x512 .bf16) (zo : Vec F S256x128 .f32) : Vec F S256x128 .f32 :=
  k0_pay78 (k0_pay68 (F := F) i tg) (iota .tc S256x128 32 [1] iota_S256x128_d1_w32) (k0_pay69 i a w) (k0_pay70 i a w) (k0_pay71 i a w) (k0_pay72 i a w) zo (k0_pay74 (F := F) i tg)

/-- The three lane scratches as the seven chunks store them. -/
def piecesM (i : BitVec 32) (x1 : Vec F S1792x1536 .bf16) (w : Vec F S1536x512 .bf16) (mo : Vec F S1792x128 .f32) : List (View.Piece (Elt F) S1792x128 .f32) :=
  List.ofFn fun k : Fin 7 => ⟨rLane k, chunkM i (View.ld x1 (rRows k)) w (View.ld mo (rLane k))⟩
def piecesL (i : BitVec 32) (x1 : Vec F S1792x1536 .bf16) (w : Vec F S1536x512 .bf16) (mo lo : Vec F S1792x128 .f32) : List (View.Piece (Elt F) S1792x128 .f32) :=
  List.ofFn fun k : Fin 7 => ⟨rLane k, chunkL i (View.ld x1 (rRows k)) w (View.ld mo (rLane k)) (View.ld lo (rLane k))⟩
def piecesZ (i : BitVec 32) (x1 : Vec F S1792x1536 .bf16) (x2 : Vec F S1792x1 .i32) (w : Vec F S1536x512 .bf16) (zo : Vec F S1792x128 .f32) : List (View.Piece (Elt F) S1792x128 .f32) :=
  List.ofFn fun k : Fin 7 => ⟨rLane k, chunkZ i (View.ld x1 (rRows k)) (View.ld x2 (rTgt k)) w (View.ld zo (rLane k))⟩

/-- Grid point `i`'s number as the body reads it, and its test for the first point. -/
abbrev pnt (i : grid0.Coords) : BitVec 32 := BitVec.ofNat 32 (i 0).val
abbrev first (i : grid0.Coords) : Prop := Scalar.cmpi .ne (Scalar.extui (Scalar.cmpi .eq (pnt i) 0#32) : BitVec 32) 0#32 = 1#1

/-- What the chunks find: the fill at the first point, else what the point before left. -/
def mIn (i : grid0.Coords) (x9 : Vec F S1792x128 .f32) : Vec F S1792x128 .f32 := if first i then k0_pay4 else x9
def lIn (i : grid0.Coords) (x10 : Vec F S1792x128 .f32) : Vec F S1792x128 .f32 := if first i then k0_pay5 else x10
def zIn (i : grid0.Coords) (x11 : Vec F S1792x128 .f32) : Vec F S1792x128 .f32 := if first i then k0_pay6 else x11

/-- What the point leaves. -/
def mOut (i : grid0.Coords) (x1 : Vec F S1792x1536 .bf16) (x3 : Vec F S1536x512 .fp8e4m3) (x4 : Vec F S48x512 .i8) (x9 : Vec F S1792x128 .f32) : Vec F S1792x128 .f32 :=
  View.canon (piecesM (pnt i) x1 (wbOf x3 x4) (mIn i x9))
def lOut (i : grid0.Coords) (x1 : Vec F S1792x1536 .bf16) (x3 : Vec F S1536x512 .fp8e4m3) (x4 : Vec F S48x512 .i8) (x9 x10 : Vec F S1792x128 .f32) : Vec F S1792x128 .f32 :=
  View.canon (piecesL (pnt i) x1 (wbOf x3 x4) (mIn i x9) (lIn i x10))
def zOut (i : grid0.Coords) (x1 : Vec F S1792x1536 .bf16) (x2 : Vec F S1792x1 .i32) (x3 : Vec F S1536x512 .fp8e4m3) (x4 : Vec F S48x512 .i8) (x11 : Vec F S1792x128 .f32) : Vec F S1792x128 .f32 :=
  View.canon (piecesZ (pnt i) x1 x2 (wbOf x3 x4) (zIn i x11))
/-- The two results: stored at the last point only. -/
def lpOut (i : grid0.Coords) (x1 : Vec F S1792x1536 .bf16) (x2 : Vec F S1792x1 .i32) (x3 : Vec F S1536x512 .fp8e4m3) (x4 : Vec F S48x512 .i8)
    (x5 : Vec F S1792x1 .f32) (x9 x10 x11 : Vec F S1792x128 .f32) : Vec F S1792x1 .f32 :=
  if k0_cond2 i = 1#1 then k0_pay3 (mOut i x1 x3 x4 x9) (lOut i x1 x3 x4 x9 x10) (zOut i x1 x2 x3 x4 x11) else x5
def lseOut (i : grid0.Coords) (x1 : Vec F S1792x1536 .bf16) (x3 : Vec F S1536x512 .fp8e4m3) (x4 : Vec F S48x512 .i8)
    (x6 : Vec F S1792x1 .f32) (x9 x10 : Vec F S1792x128 .f32) : Vec F S1792x1 .f32 :=
  if k0_cond2 i = 1#1 then k0_pay2 (mOut i x1 x3 x4 x9) (lOut i x1 x3 x4 x9 x10) else x6

/-! ## The run -/

/-- A whole-buffer store read back: the payload. -/
theorem canon_whole {S : Shape} {e : EltTy} {off : Fin S.rank → Nat} (h : ∀ a, off a + S.size a ≤ S.size a) (p : S.Idx → Elt F e) :
    View.canon [(⟨Rect.unit (s := S) off S.size h, p⟩ : View.Piece (Elt F) S e)] = p := by
  funext y
  have h0 : ∀ a, off a = 0 := fun a => by have := h a; omega
  have : (Rect.unit (s := S) off S.size h).emb y = y := by
    funext a; apply Fin.ext; rw [Rect.emb_apply]; show off a + 1 * (y a : Nat) = _; rw [h0 a]; omega
  conv_lhs => rw [← this]
  exact View.canon_cons_emb _ _ _ _

theorem read_whole_writes {κ : Kind} {sp : Space} {S : Shape} {e : EltTy} (v : View sig κ sp S e) (f : v.ty.Contents (Elt F)) {off : Fin S.rank → Nat}
    (h : ∀ a, off a + S.size a ≤ S.size a) (p : S.Idx → Elt F e) :
    v.read (Elt F) (v.writes (Elt F) f [⟨Rect.unit (s := S) off S.size h, p⟩]) = p := by
  have h0 : ∀ a, off a = 0 := fun a => by have := h a; omega
  rw [View.read_writes_eq_canon, canon_whole]
  intro y
  have hy : y ∈ (Rect.unit (s := S) off S.size h).set := Rect.mem_set_unit.mpr fun a => by
    have := (y a).isLt; rw [h0 a]; omega
  exact ⟨_, List.mem_singleton_self _, hy⟩

/-- A whole-buffer load: the contents. -/
theorem ld_whole {S : Shape} {e : EltTy} {off : Fin S.rank → Nat} (h : ∀ a, off a + S.size a ≤ S.size a) (p : S.Idx → Elt F e) :
    View.ld p (Rect.unit (s := S) off S.size h) = p := by
  funext y
  have h0 : ∀ a, off a = 0 := fun a => by have := h a; omega
  show p ((Rect.unit (s := S) off S.size h).emb y) = p y
  congr 1
  funext a; apply Fin.ext; rw [Rect.emb_apply]; show off a + 1 * (y a : Nat) = _; rw [h0 a]; omega

theorem run (c : Dev nD) (E : Set ℕ) (i : grid0.Coords) (arg1 : Memref sig .tc .vmem S1792x1536 .bf16) (harg1 : arg1.IsWhole) (arg2 : Memref sig .tc .vmem S1792x1 .i32) (harg2 : arg2.IsWhole) (arg3 : Memref sig .tc .vmem S1536x512 .fp8e4m3) (harg3 : arg3.IsWhole) (arg4 : Memref sig .tc .vmem S48x512 .i8) (harg4 : arg4.IsWhole) (arg5 : Memref sig .tc .vmem S1792x1 .f32) (harg5 : arg5.IsWhole) (arg6 : Memref sig .tc .vmem S1792x1 .f32) (harg6 : arg6.IsWhole) (arg7 : Memref sig .tc .vmem S1536x512 .bf16) (harg7 : arg7.IsWhole) (arg8 : Memref sig .tc .vmem S48x512 .i32) (harg8 : arg8.IsWhole) (arg9 : Memref sig .tc .vmem S1792x128 .f32) (harg9 : arg9.IsWhole) (arg10 : Memref sig .tc .vmem S1792x128 .f32) (harg10 : arg10.IsWhole) (arg11 : Memref sig .tc .vmem S1792x128 .f32) (harg11 : arg11.IsWhole)
    (x1 : Vec F S1792x1536 .bf16) (x2 : Vec F S1792x1 .i32) (x3 : Vec F S1536x512 .fp8e4m3) (x4 : Vec F S48x512 .i8)
    (x5 x6 : Vec F S1792x1 .f32) (x9 x10 x11 : Vec F S1792x128 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ owns (c : Thread nD τ) arg9 fullShare x9 ∗ owns (c : Thread nD τ) arg10 fullShare x10 ∗ owns (c : Thread nD τ) arg11 fullShare x11
       ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (lpOut i x1 x2 x3 x4 x5 x9 x10 x11) ∗ owns (c : Thread nD τ) arg6 fullShare (lseOut i x1 x3 x4 x6 x9 x10) ∗ (∃ d, owns (c : Thread nD τ) arg7 fullShare d) ∗ (∃ d, owns (c : Thread nD τ) arg8 fullShare d) ∗ owns (c : Thread nD τ) arg9 fullShare (mOut i x1 x3 x4 x9) ∗ owns (c : Thread nD τ) arg10 fullShare (lOut i x1 x3 x4 x9 x10) ∗ owns (c : Thread nD τ) arg11 fullShare (zOut i x1 x2 x3 x4 x11)) -∗ K ⟨⟩))
      ⊢ wp frame (wpE (defs₀ (F := F)) Variants.none c none) E (cc0_head i arg1 harg1 arg2 harg2 arg3 harg3 arg4 harg4 arg5 harg5 arg6 harg6 arg7 harg7 arg8 harg8 arg9 harg9 arg10 harg10 arg11 harg11) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%f10, %hf10, H10⟩, ⟨%f11, %hf11, H11⟩, Hk⟩
  sl_exec_parts!
  sl_step
  subst hf1 hf2 hf3 hf4 hf5 hf6 hf9 hf10 hf11
  have hws : ∀ b : Fin 48, arg8.view.readCov (run.sl.H8_1 c arg4 f4) (rS b).toLoadRect = View.ld (k0_pay7 (arg4.view.read (Elt F) f4)) (rS b) := by
    intro b
    rw [View.readCov_eq_canon']
    have h8 : View.canon (run.sl.H8_1 c arg4 f4) = k0_pay7 (arg4.view.read (Elt F) f4) := by
      unfold run.sl.H8_1
      rw [canon_whole]
      congr 1
      exact ld_whole _ _
    rw [h8]
  have hW : arg7.view.readCov (run.sl.H7_48 c arg3 arg4 arg8 f3 f4) (Rect.unit (s := S1536x512) ![0, 0] S1536x512.size inb_S1536x512_S1536x512_0_0).toLoadRect
      = wbOf (arg3.view.read (Elt F) f3) (arg4.view.read (Elt F) f4) := by
    rw [View.readCov_eq_canon']
    have h7 : run.sl.H7_48 c arg3 arg4 arg8 f3 f4
        = List.ofFn fun b : Fin 48 => (⟨rW b, k0_pay8 (View.ld (arg3.view.read (Elt F) f3) (rW b)) (arg8.view.readCov (run.sl.H8_1 c arg4 f4) (rS b).toLoadRect)⟩ : View.Piece (Elt F) S1536x512 .bf16) := rfl
    have h7' : View.canon (run.sl.H7_48 c arg3 arg4 arg8 f3 f4) = wbOf (arg3.view.read (Elt F) f3) (arg4.view.read (Elt F) f4) := by
      rw [h7]; unfold wbOf piecesW; simp only [hws]
    rw [h7']
    exact ld_whole (F := F) _ _
  have h9i : arg9.view.read (Elt F) (if hc : first i then arg9.view.writes (Elt F) f9 [⟨Rect.unit (s := S1792x128) ![0, 0] S1792x128.size inb_S1792x128_S1792x128_0_0, k0_pay4⟩] else f9)
      = mIn i (arg9.view.read (Elt F) f9) := by
    unfold mIn
    by_cases h : first i
    · rw [dif_pos h, if_pos h]; exact read_whole_writes _ _ _ _
    · rw [dif_neg h, if_neg h]
  have h10i : arg10.view.read (Elt F) (if hc : first i then arg10.view.writes (Elt F) f10 [⟨Rect.unit (s := S1792x128) ![0, 0] S1792x128.size inb_S1792x128_S1792x128_0_0, k0_pay5⟩] else f10)
      = lIn i (arg10.view.read (Elt F) f10) := by
    unfold lIn
    by_cases h : first i
    · rw [dif_pos h, if_pos h]; exact read_whole_writes _ _ _ _
    · rw [dif_neg h, if_neg h]
  have h11i : arg11.view.read (Elt F) (if hc : first i then arg11.view.writes (Elt F) f11 [⟨Rect.unit (s := S1792x128) ![0, 0] S1792x128.size inb_S1792x128_S1792x128_0_0, k0_pay6⟩] else f11)
      = zIn i (arg11.view.read (Elt F) f11) := by
    unfold zIn
    by_cases h : first i
    · rw [dif_pos h, if_pos h]; exact read_whole_writes _ _ _ _
    · rw [dif_neg h, if_neg h]
  have h9 : View.canon (run.sl.H9_7 c i arg1 arg3 arg4 arg7 arg8 arg9 f1 f3 f4 f9) = mOut i (arg1.view.read (Elt F) f1) (arg3.view.read (Elt F) f3) (arg4.view.read (Elt F) f4) (arg9.view.read (Elt F) f9) := by
    unfold mOut
    rw [← hW, ← h9i]
    rfl
  have h10 : View.canon (run.sl.H10_7 c i arg1 arg3 arg4 arg7 arg8 arg9 arg10 f1 f3 f4 f9 f10) = lOut i (arg1.view.read (Elt F) f1) (arg3.view.read (Elt F) f3) (arg4.view.read (Elt F) f4) (arg9.view.read (Elt F) f9) (arg10.view.read (Elt F) f10) := by
    unfold lOut
    rw [← hW, ← h9i, ← h10i]
    rfl
  have h11 : View.canon (run.sl.H11_7 c i arg1 arg2 arg3 arg4 arg7 arg8 arg11 f1 f2 f3 f4 f11) = zOut i (arg1.view.read (Elt F) f1) (arg2.view.read (Elt F) f2) (arg3.view.read (Elt F) f3) (arg4.view.read (Elt F) f4) (arg11.view.read (Elt F) f11) := by
    unfold zOut
    rw [← hW, ← h11i]
    rfl
  have hcov : ∀ (L : List (View.Piece (Elt F) S1792x128 .f32)) {sp : Space} (v : View sig .tc sp S1792x128 .f32) (h),
      v.readCov L (Rect.unit (s := S1792x128) ![0, 0] S1792x128.size h).toLoadRect = View.canon L := by
    intro L sp v h
    rw [View.readCov_eq_canon']; exact ld_whole (F := F) h _
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists _; isplitr
    swap
    · iexact H5
    · ipureintro; unfold lpOut
      by_cases h : k0_cond2 i = 1#1
      · rw [dif_pos h, if_pos h, read_whole_writes, ← h9, ← h10, ← h11]
        exact congr (congr (congrArg _ (hcov _ _ _)) (hcov _ _ _)) (hcov _ _ _)
      · rw [dif_neg h, if_neg h]
  isplitl [H6]
  · iexists _; isplitr
    swap
    · iexact H6
    · ipureintro; unfold lseOut
      by_cases h : k0_cond2 i = 1#1
      · rw [dif_pos h, if_pos h, read_whole_writes, ← h9, ← h10]
        exact congr (congrArg _ (hcov _ _ _)) (hcov _ _ _)
      · rw [dif_neg h, if_neg h]
  isplitl [H7]
  · iexists _, _; isplitr
    swap
    · iexact H7
    · ipureintro; rfl
  isplitl [H8]
  · iexists _, _; isplitr
    swap
    · iexact H8
    · ipureintro; rfl
  isplitl [H9]
  · iexists _; isplitr
    swap
    · iexact H9
    · ipureintro; rw [View.read_writes_junk_eq_canon]; exact h9
  isplitl [H10]
  · iexists _; isplitr
    swap
    · iexact H10
    · ipureintro; rw [View.read_writes_junk_eq_canon]; exact h10
  iexists _; isplitr
  swap
  · iexact H11
  · ipureintro; rw [View.read_writes_junk_eq_canon]; exact h11

end Cert.Proof.KernelIdeal

end
-- ==== Proof.Lanes.lean ====
/-
  The extended-real arithmetic of a log-sum-exp taken online: a running maximum with a running sum of exponentials relative
  to it, extended four values at a time, lane by lane, is the plain maximum and sum over all values. No value is assumed finite.
-/
module

public import Idealize.ShloMosaic.PureOps.Ideal
public import Mathlib.Algebra.BigOperators.Fin
public import Mathlib.Algebra.Order.BigOperators.Group.Finset

@[expose] public section

set_option maxRecDepth 16384

noncomputable section

open Idealize Idealize.ShloMosaic

namespace Cert.Proof.Lanes

theorem exp_nonneg (x : EReal) : 0 ≤ Ideal.exp x := by
  induction x using EReal.rec with
  | bot => exact le_refl (0 : EReal)
  | top => exact le_top
  | coe r => exact EReal.coe_nonneg.mpr (Real.exp_pos r).le

theorem exp_bot_sub (n : EReal) : Ideal.exp (⊥ - n) = 0 := by
  rw [EReal.bot_sub]; rfl

/-- Rescaling from one bound to a larger one. -/
theorem exp_sub_mul {x m n : EReal} (hx : x ≤ m) (hm : m ≤ n) :
    Ideal.exp (x - m) * Ideal.exp (m - n) = Ideal.exp (x - n) := by
  induction n using EReal.rec with
  | bot =>
    obtain rfl := le_bot_iff.mp hm
    obtain rfl := le_bot_iff.mp hx
    simp only [EReal.bot_sub]
    exact zero_mul (0 : EReal)
  | top =>
    simp only [EReal.sub_top]
    exact mul_zero (Ideal.exp (x - m))
  | coe n =>
    induction m using EReal.rec with
    | bot =>
      obtain rfl := le_bot_iff.mp hx
      simp only [EReal.bot_sub]
      exact zero_mul (0 : EReal)
    | top => exact absurd hm (by simp)
    | coe m =>
      induction x using EReal.rec with
      | bot =>
        simp only [EReal.bot_sub]
        exact zero_mul (Ideal.exp (↑m - ↑n))
      | top => exact absurd hx (by simp)
      | coe x =>
        show ((Real.exp (x - m) : ℝ) : EReal) * ((Real.exp (m - n) : ℝ) : EReal) = ((Real.exp (x - n) : ℝ) : EReal)
        rw [← EReal.coe_mul, ← Real.exp_add]
        congr 2; ring

/-- Rescaling a sum: the terms are nonnegative. -/
theorem sum_exp_mul {ι : Type*} (s : Finset ι) (y : ι → EReal) {m n : EReal} (hy : ∀ j ∈ s, y j ≤ m) (hm : m ≤ n) :
    (∑ j ∈ s, Ideal.exp (y j - m)) * Ideal.exp (m - n) = ∑ j ∈ s, Ideal.exp (y j - n) := by
  classical
  induction s using Finset.induction_on with
  | empty => simp
  | insert a s ha ih =>
    rw [Finset.sum_insert ha, Finset.sum_insert ha,
      EReal.right_distrib_of_nonneg (exp_nonneg _) (Finset.sum_nonneg fun j _ => exp_nonneg _),
      exp_sub_mul (hy a (Finset.mem_insert_self a s)) hm, ih fun j hj => hy j (Finset.mem_insert_of_mem hj)]

/-- A lane after its first `n` values: their maximum, and the sum of exponentials relative to it. -/
def Online (y : ℕ → EReal) (n : ℕ) (m l : EReal) : Prop :=
  m = (Finset.range n).sup y ∧ l = ∑ j ∈ Finset.range n, Ideal.exp (y j - m)

theorem online_zero (y : ℕ → EReal) : Online y 0 ⊥ 0 := ⟨by simp, by simp⟩

/-- Extended by four values at once. -/
theorem Online.four {y : ℕ → EReal} {n : ℕ} {m l : EReal} (h : Online y n m l) (M : EReal)
    (hM : M = max (max (max (max m (y n)) (y (n + 1))) (y (n + 2))) (y (n + 3))) :
    Online y (n + 4) M (l * Ideal.exp (m - M) + Ideal.exp (y n - M) + Ideal.exp (y (n + 1) - M) + Ideal.exp (y (n + 2) - M) + Ideal.exp (y (n + 3) - M)) := by
  obtain ⟨hm, hl⟩ := h
  refine ⟨?_, ?_⟩
  · rw [hM, hm]
    simp only [Finset.range_add_one, Finset.sup_insert, sup_comm, sup_left_comm, sup_assoc]
  · have hmM : m ≤ M := by rw [hM]; simp
    rw [hl, sum_exp_mul (Finset.range n) y (fun j hj => by rw [hm]; exact Finset.le_sup hj) hmM]
    simp only [Finset.sum_range_succ]

/-- The lanes' results together: `L` lanes of `n` values each, lane `c`'s value `j` being number `L·j + c` of the row. -/
theorem lanes_top (x : ℕ → EReal) (L n : ℕ) (m : Fin L → EReal) (hm : ∀ c, m c = (Finset.range n).sup fun j => x (L * j + c.val)) :
    Finset.univ.fold max ⊥ m = (Finset.range (L * n)).sup x := by
  have e : Finset.univ.fold max ⊥ m = Finset.univ.sup m := rfl
  rw [e]
  apply le_antisymm
  · refine Finset.sup_le fun c _ => ?_
    rw [hm]
    refine Finset.sup_le fun j hj => Finset.le_sup (f := x) ?_
    have hj := Finset.mem_range.mp hj
    have : L * (j + 1) ≤ L * n := Nat.mul_le_mul_left L hj
    rw [Finset.mem_range]
    have := c.isLt
    rw [Nat.mul_add] at *
    omega
  · refine Finset.sup_le fun v hv => ?_
    have hv := Finset.mem_range.mp hv
    have hL : 0 < L := Nat.pos_of_ne_zero fun h => by subst h; simp at hv
    have hd := Nat.div_add_mod v L
    have h1 : v / L < n := Nat.div_lt_of_lt_mul hv
    calc x v = x (L * (v / L) + v % L) := by rw [hd]
      _ ≤ (Finset.range n).sup fun j => x (L * j + v % L) := Finset.le_sup (f := fun j => x (L * j + v % L)) (Finset.mem_range.mpr h1)
      _ = m ⟨v % L, Nat.mod_lt v hL⟩ := (hm ⟨v % L, Nat.mod_lt v hL⟩).symm
      _ ≤ Finset.univ.sup m := Finset.le_sup (Finset.mem_univ _)

/-- A sum over `L` lanes of `n` values each is the sum over the row. -/
theorem sum_lanes (f : ℕ → EReal) (L n : ℕ) :
    ∑ c : Fin L, ∑ j ∈ Finset.range n, f (L * j + c.val) = ∑ v ∈ Finset.range (L * n), f v := by
  rw [Finset.sum_comm]
  induction n with
  | zero => simp
  | succ n ih =>
    rw [Finset.sum_range_succ, ih, Nat.mul_add, Nat.mul_one, Finset.sum_range_add]
    congr 1
    exact Fin.sum_univ_eq_sum_range (fun c => f (L * n + c)) L

theorem lanes_total (x : ℕ → EReal) (L n : ℕ) (m l : Fin L → EReal) (h : ∀ c, Online (fun j => x (L * j + c.val)) n (m c) (l c)) :
    ∑ c, l c * Ideal.exp (m c - Finset.univ.fold max ⊥ m) = ∑ v ∈ Finset.range (L * n), Ideal.exp (x v - (Finset.range (L * n)).sup x) := by
  have htop := lanes_top x L n m fun c => (h c).1
  rw [← htop, ← sum_lanes (fun v => Ideal.exp (x v - Finset.univ.fold max ⊥ m)) L n]
  refine Finset.sum_congr rfl fun c _ => ?_
  have e : Finset.univ.fold max ⊥ m = Finset.univ.sup m := rfl
  rw [(h c).2]
  refine sum_exp_mul _ _ (fun j hj => ?_) (by rw [e]; exact Finset.le_sup (Finset.mem_univ c))
  rw [(h c).1]; exact Finset.le_sup (f := fun j => x (L * j + c.val)) hj

/-- Values at −∞ past the row's end change neither the maximum nor the sum. -/
theorem top_pad (x : ℕ → EReal) (V N : ℕ) (hVN : V ≤ N) (hx : ∀ v, V ≤ v → x v = ⊥) :
    (Finset.range N).sup x = (Finset.range V).sup x := by
  apply le_antisymm
  · refine Finset.sup_le fun v hv => ?_
    by_cases h : v < V
    · exact Finset.le_sup (f := x) (Finset.mem_range.mpr h)
    · rw [hx v (by omega)]; exact bot_le
  · exact Finset.sup_mono (Finset.range_mono hVN)

theorem sum_pad (x : ℕ → EReal) (V N : ℕ) (hVN : V ≤ N) (hx : ∀ v, V ≤ v → x v = ⊥) (t : EReal) :
    ∑ v ∈ Finset.range N, Ideal.exp (x v - t) = ∑ v ∈ Finset.range V, Ideal.exp (x v - t) := by
  symm
  refine Finset.sum_subset (Finset.range_mono hVN) fun v _ hv => ?_
  rw [hx v (by simpa using hv), exp_bot_sub]

/-- The row's log-sum-exp. -/
def lse (V : ℕ) (x : ℕ → EReal) : EReal :=
  (Finset.range V).sup x + Ideal.log (∑ v ∈ Finset.range V, Ideal.exp (x v - (Finset.range V).sup x))

theorem lse_of_lanes (x : ℕ → EReal) (L n V : ℕ) (hV : V ≤ L * n) (hx : ∀ v, V ≤ v → x v = ⊥) (m l : Fin L → EReal)
    (h : ∀ c, Online (fun j => x (L * j + c.val)) n (m c) (l c)) :
    Finset.univ.fold max ⊥ m + Ideal.log (∑ c, l c * Ideal.exp (m c - Finset.univ.fold max ⊥ m)) = lse V x := by
  rw [lanes_total x L n m l h, lanes_top x L n m fun c => (h c).1, top_pad x V _ hV hx, sum_pad x V _ hV hx]
  rfl

/-- A lane's part of the value at `tg`, among the lane's first `n` values. -/
def pick (x : ℕ → EReal) (L tg n c : ℕ) : EReal := if tg % L = c ∧ tg / L < n then x tg else 0

/-- The lanes' parts add up to the value at `tg`, or to nothing if `tg` is past the row's end. -/
theorem sum_pick (x : ℕ → EReal) (L tg n V : ℕ) (hL : 0 < L) (hV : V ≤ L * n) (htg : tg < V ∨ L * n ≤ tg) :
    ∑ c : Fin L, pick x L tg n c.val = ∑ v ∈ Finset.range V, if v = tg then x v else 0 := by
  have e : ∑ c : Fin L, pick x L tg n c.val = if tg / L < n then x tg else 0 := by
    rw [Finset.sum_eq_single (⟨tg % L, Nat.mod_lt tg hL⟩ : Fin L)]
    · simp [pick]
    · intro c _ hc
      have : tg % L ≠ c.val := fun h => hc (Fin.ext h.symm)
      simp [pick, this]
    · intro h; exact absurd (Finset.mem_univ _) h
  rw [e, Finset.sum_ite_eq']
  rcases htg with h | h
  · have : tg / L < n := Nat.div_lt_of_lt_mul (by omega)
    simp [this, h]
  · have h1 : ¬ tg / L < n := by
      intro h2
      have := Nat.lt_mul_of_div_lt h2 hL
      rw [Nat.mul_comm] at this; omega
    have h2 : ¬ tg < V := by omega
    simp [h1, h2]

end Cert.Proof.Lanes
-- ==== Proof.Spec.lean ====
/-
  The two results as functions of the four arguments, in the extended reals: a row's logits `X`, their log-sum-exp, and
  the logit at the row's target.
-/
module

public import proofs.«01_k».proof.Proof.Lanes
public import Idealize.ShloMosaic.Lib.Pointwise
public import Idealize.ShloMosaic.Lib.Affine

@[expose] public section

set_option maxRecDepth 16384

noncomputable section

open Idealize Idealize.ShloMosaic

namespace Cert.Proof.Spec

/-- The vocabulary's size. -/
abbrev vocab : ℕ := 151936

/-- The scale an exponent byte stands for: the byte in a `bf16`'s exponent field. -/
def scl (b : BitVec 8) : EReal := Ideal.ofBits .bf16 (b.setWidth 16 <<< 7)

/-- It is the power of two with that biased exponent, off the two bytes that encode no such power. -/
theorem scl_eq (b : BitVec 8) (h1 : 1 ≤ b.toNat) (h2 : b.toNat ≤ 254) :
    FloatOps.exp2 (F := Ideal) (φ := .f32) (FloatOps.sitofp .f32 (IntOp.subi (BitVec.setWidth 32 b) 127#32)) = scl b := by
  have hex : ((b.setWidth 16 <<< 7).extractLsb' 7 8).toNat = b.toNat := by
    rw [BitVec.extractLsb'_toNat, BitVec.toNat_shiftLeft, BitVec.toNat_setWidth]
    simp only [Nat.shiftLeft_eq, Nat.shiftRight_eq_div_pow]
    omega
  have hfr : ((b.setWidth 16 <<< 7).extractLsb' 0 7).toNat = 0 := by
    rw [BitVec.extractLsb'_toNat, BitVec.toNat_shiftLeft, BitVec.toNat_setWidth]
    simp only [Nat.shiftLeft_eq, Nat.shiftRight_eq_div_pow]
    omega
  have hsg : (b.setWidth 16 <<< 7).extractLsb' 15 1 = 0#1 := by
    apply BitVec.eq_of_toNat_eq
    rw [BitVec.extractLsb'_toNat, BitVec.toNat_shiftLeft, BitVec.toNat_setWidth]
    simp only [Nat.shiftLeft_eq, Nat.shiftRight_eq_div_pow]
    have := b.isLt
    show _ = 0
    omega
  have hint : (IntOp.subi (BitVec.setWidth 32 b) 127#32).toInt = (b.toNat : Int) - 127 := by
    show (BitVec.setWidth 32 b - 127#32).toInt = _
    rw [BitVec.toInt_sub, BitVec.toInt_setWidth]
    have h0 : (BitVec.toNat b : Int).bmod (2 ^ 32) = b.toNat := Int.bmod_eq_of_le (by omega) (by omega)
    have h127 : (127#32 : BitVec 32).toInt = 127 := by decide
    rw [h0, h127]
    exact Int.bmod_eq_of_le (by omega) (by omega)
  have hL : FloatOps.exp2 (F := Ideal) (φ := .f32) (FloatOps.sitofp .f32 (IntOp.subi (BitVec.setWidth 32 b) 127#32))
      = ((2 : ℝ) ^ ((b.toNat : ℤ) - 127) : ℝ) := by
    show Ideal.exp2 (((IntOp.subi (BitVec.setWidth 32 b) 127#32).toInt : ℝ) : EReal) = _
    rw [hint]
    show ((Real.rpow 2 _ : ℝ) : EReal) = _
    congr 1
    exact Real.rpow_intCast 2 _
  rw [hL]
  unfold scl
  show _ = Ideal.ieee 8 7 _
  unfold Ideal.ieee
  simp only [hex, hfr, hsg]
  rw [if_neg (by omega), if_neg (by omega)]
  congr 1
  have e : (b.toNat : ℤ) - (2 ^ (8 - 1) - 1) - ((7 : ℕ) : ℤ) = ((b.toNat : ℤ) - 127) - 7 := by norm_num
  have e2 : (2 : ℝ) ^ ((b.toNat : ℤ) - 127) = 2 ^ (7 : ℤ) * 2 ^ ((b.toNat : ℤ) - 127 - 7) := by
    rw [← zpow_add₀ (by norm_num)]
    congr 1
    ring
  have e3 : (2 : ℝ) ^ (7 : ℤ) = 128 := by norm_num
  rw [e, e2, e3]
  simp

/-- Row `r`'s logit at column `v`; −∞ past the vocabulary. -/
def X (a : Vec Ideal ⟨2, ![1792, 1536]⟩ .bf16) (w : Vec Ideal ⟨2, ![1536, 151936]⟩ .fp8e4m3) (s : Vec Ideal ⟨2, ![48, 151936]⟩ .i8)
    (r : Fin 1792) (v : ℕ) : EReal :=
  if h : v < vocab then ∑ k : Fin 1536, a (ix2 r k) * (w (ix2 k ⟨v, h⟩) * scl (s (ix2 ⟨k.val / 32, by omega⟩ ⟨v, h⟩))) else ⊥

theorem X_pad (a : Vec Ideal ⟨2, ![1792, 1536]⟩ .bf16) (w : Vec Ideal ⟨2, ![1536, 151936]⟩ .fp8e4m3) (s : Vec Ideal ⟨2, ![48, 151936]⟩ .i8)
    (r : Fin 1792) (v : ℕ) (h : vocab ≤ v) : X a w s r v = ⊥ := dif_neg (by omega)

/-- The logit at column `tg`, or nothing if there is no such column. -/
def picked (x : ℕ → EReal) (tg : ℕ) : EReal := ∑ v ∈ Finset.range vocab, if v = tg then x v else 0

/-- The logarithm of the vocabulary's size, as the programs write it. -/
def logVocab : EReal := Ideal.ofBits .f32 0x413EE641#32

/-- The row's two results. -/
def lp (x : ℕ → EReal) (tg : ℕ) : EReal := picked x tg - Lanes.lse vocab x + logVocab
def ls (x : ℕ → EReal) : EReal := Lanes.lse vocab x - logVocab

/-- A maximum over the columns `0 … N−1`, and a sum. -/
theorem fold_fin (N : ℕ) (x : ℕ → EReal) : Finset.univ.fold max ⊥ (fun v : Fin N => x v.val) = (Finset.range N).sup x := by
  show Finset.univ.sup (fun v : Fin N => x v.val) = _
  apply le_antisymm
  · exact Finset.sup_le fun v _ => Finset.le_sup (f := x) (Finset.mem_range.mpr v.isLt)
  · exact Finset.sup_le fun v hv => Finset.le_sup (f := fun v : Fin N => x v.val) (Finset.mem_univ (⟨v, Finset.mem_range.mp hv⟩ : Fin N))

theorem sum_fin (N : ℕ) (f : ℕ → EReal) : ∑ v : Fin N, f v.val = ∑ v ∈ Finset.range N, f v :=
  Fin.sum_univ_eq_sum_range f N

theorem neg_inf : Ideal.ofBits .f32 0xFF800000#32 = (⊥ : EReal) := by
  simp [Ideal.ofBits, Ideal.ieee]

/-- A word compared with a column number. -/
theorem select_eq (v : ℕ) (hv : v < 2 ^ 32) (t : BitVec 32) (x y : EReal) :
    Scalar.select (IntOp.cmpi .eq (BitVec.ofNat 32 v) t) x y = if v = t.toNat then x else y := by
  have e : (BitVec.ofNat 32 v = t) ↔ v = t.toNat := by
    constructor
    · intro h; rw [← h, BitVec.toNat_ofNat, Nat.mod_eq_of_lt hv]
    · intro h; rw [h]; simp
  unfold Scalar.select
  simp only [show (1 : BitVec 1) = 1#1 from rfl, IntOp.cmpi_eq, e]

end Cert.Proof.Spec
-- ==== Proof.Point.lean ====
/-
  Every value the head's body computes, read at one element in the extended reals: the widened and scaled weight tile, a
  column group's logits (−∞ where the group lies past the vocabulary), and the three lane scratches after a grid point.
-/
module

public import proofs.«01_k».proof.Proof.Body
public import proofs.«01_k».proof.Proof.Spec
public import Idealize.ShloMosaic.Lib.Pointwise
public import Idealize.ShloMosaic.Lib.BitcastPair
public import Idealize.ShloMosaic.Lib.Pipeline.ValueKit.Tiles

@[expose] public section

set_option maxRecDepth 16384

noncomputable section

open Idealize Idealize.ShloMosaic Cert.KernelIdeal Cert.KernelIdeal.Gen

namespace Cert.Proof.KernelIdeal

/-- The mask's constant names −∞. -/
theorem mask_bot : (Named.named (F := Ideal) κ "mask" 0xF149F2CA#32 : Ideal .f32) = (⊥ : EReal) :=
  IdealRules.named_const.ideal_named_scalar κ "mask" _ ⊥ rfl

/-! ## The weight tile -/

/-- Both halves of the body's word are the byte in a `bf16`'s exponent field. -/
theorem word_half (b : BitVec 8) (p : Nat) (hp : p < 2) :
    ((b.setWidth 32 <<< 7) ||| (b.setWidth 32 <<< 23)).extractLsb' (16 * p) 16 = b.setWidth 16 <<< 7 := by
  apply BitVec.eq_of_getLsbD_eq
  intro i hi
  have e : p = 0 ∨ p = 1 := by omega
  rcases e with rfl | rfl
  · simp only [BitVec.getLsbD_extractLsb', BitVec.getLsbD_or, BitVec.getLsbD_shiftLeft, BitVec.getLsbD_setWidth]
    have h1 : i < 23 := by omega
    have h2 : i < 32 := by omega
    have h3 : i - 7 < 32 := by omega
    have h4 : i - 7 < 16 := by omega
    have h5 : b.getLsbD (i - 7) = true → i - 7 < 8 := fun h => BitVec.lt_of_getLsbD h
    simp only [hi, h1, h2, h3, h4, decide_true, decide_false, Bool.true_and, Bool.and_true, Bool.not_true, Bool.false_and, Bool.or_false, Nat.mul_zero, Nat.zero_add]
  · simp only [BitVec.getLsbD_extractLsb', BitVec.getLsbD_or, BitVec.getLsbD_shiftLeft, BitVec.getLsbD_setWidth]
    have h0 : b.getLsbD (16 * 1 + i - 7) = false := BitVec.getLsbD_of_ge _ _ (by omega)
    have h2 : 16 * 1 + i < 32 := by omega
    have h3 : 16 * 1 + i - 23 = i - 7 := by omega
    have h4 : i - 7 < 32 := by omega
    have h5 : i - 7 < 16 := by omega
    simp only [h0, h2, h3, h4, h5, hi, decide_true, Bool.true_and, Bool.and_false, Bool.false_or]
    by_cases h : i < 7
    · have : 16 * 1 + i < 23 := by omega
      simp [h, this]
    · have : ¬ 16 * 1 + i < 23 := by omega
      simp [h, this]

theorem pay7_apply (x4 : Vec Ideal S48x512 .i8) (b : Fin 48) (c : Fin 512) :
    k0_pay7 x4 (ix2 b c) = ((x4 (ix2 b c)).setWidth 32 <<< 7) ||| ((x4 (ix2 b c)).setWidth 32 <<< 23) := by
  pointwise [k0_pay7]
  rfl

theorem pay8_apply (a : Vec Ideal S32x512 .fp8e4m3) (w : Vec Ideal S1x512 .i32) (r : Fin 32) (c : Fin 512) :
    k0_pay8 (F := Ideal) a w (ix2 r c)
      = a (ix2 r c) * Ideal.ofBits .bf16 ((w (ix2 0 c)).extractLsb' (16 * (r.val % 2)) 16) := by
  pointwise [k0_pay8]
  congr 2
  rw [bitcast_32_16]
  have hrow : S32x512.row (ix2 r c) = r.val := rfl
  have e : Shape.Bitcasts.srcIdx bitcasts_S16x512_w32_S32x512_w16 (ix2 r c) (S32x512.row (ix2 r c) / 2)
      (fun a ha => by have := Shape.Bitcasts.pos_lt bitcasts_S16x512_w32_S32x512_w16 (ix2 r c) 0 (by decide) a ha; omega)
      = ix2 (⟨r.val / 2, by omega⟩ : Fin 16) c := by
    funext a; apply Fin.ext
    fin_cases a
    · exact Shape.Bitcasts.srcIdx_row _ _ _ _ _ rfl
    · exact Shape.Bitcasts.srcIdx_other _ _ _ _ _ (by decide)
  rw [e, hrow]
  pointwise

theorem wbOf_apply (x3 : Vec Ideal S1536x512 .fp8e4m3) (x4 : Vec Ideal S48x512 .i8) (k : Fin 1536) (c : Fin 512) :
    wbOf (F := Ideal) x3 x4 (ix2 k c) = x3 (ix2 k c) * Spec.scl (x4 (ix2 ⟨k.val / 32, by omega⟩ c)) := by
  refine View.canon_ofFn_unit_eq_of_forall (S := S1536x512) (fun b : Fin 48 => ![32 * (47 - b.val), 0]) S32x512.size inbW _ _ _ ?_ ?_
  · refine ⟨⟨47 - k.val / 32, by omega⟩, fun a => ?_⟩
    fin_cases a
    · show 32 * (47 - (47 - k.val / 32)) ≤ k.val ∧ k.val < 32 * (47 - (47 - k.val / 32)) + 32
      omega
    · show 0 ≤ c.val ∧ c.val < 0 + 512
      omega
  · intro b x hx
    have hb := b.isLt
    have h0 : k.val = 32 * (47 - b.val) + (x 0).val := hx 0
    have h1 : c.val = 0 + (x 1).val := hx 1
    obtain ⟨q, hq⟩ : ∃ q : Fin 32, q = x 0 := ⟨x 0, rfl⟩
    have hqv : q.val = (x 0).val := congrArg Fin.val hq
    have hq32 := q.isLt
    have e1 : (x : S32x512.Idx) = ix2 q c := by
      funext a; apply Fin.ext
      fin_cases a
      · exact hqv.symm
      · show (x 1).val = c.val
        omega
    have e2 : View.ld x3 (rW b) (ix2 q c) = x3 (ix2 k c) := by
      show x3 ((rW b).emb (ix2 q c)) = _
      congr 1
      funext a; apply Fin.ext; rw [Rect.emb_apply]
      fin_cases a
      · show 32 * (47 - b.val) + 1 * q.val = k.val
        omega
      · show 0 + 1 * c.val = c.val
        omega
    have e3 : View.ld (Val := Elt Ideal) (e' := .i32) (k0_pay7 x4) (rS b) (ix2 0 c) = k0_pay7 x4 (ix2 ⟨k.val / 32, by omega⟩ c) := by
      show k0_pay7 x4 ((rS b).emb (ix2 0 c)) = _
      congr 1
      funext a; apply Fin.ext; rw [Rect.emb_apply]
      fin_cases a
      · show (47 - b.val) + 1 * 0 = k.val / 32
        omega
      · show 0 + 1 * c.val = c.val
        omega
    have key : ∀ (A : Vec Ideal S32x512 .fp8e4m3) (W : Vec Ideal S1x512 .i32), k0_pay8 (F := Ideal) A W x
        = A (ix2 q c) * Ideal.ofBits .bf16 ((W (ix2 0 c)).extractLsb' (16 * (q.val % 2)) 16) := by
      intro A W
      rw [← pay8_apply]
      exact congrArg _ e1
    refine (key _ _).trans ?_
    rw [e2, e3, pay7_apply, word_half _ _ (Nat.mod_lt _ (by omega))]
    rfl

/-! ## A column group's logits -/

/-- Column `l` of group `g` of a vocabulary tile. -/
abbrev col (g : Fin 4) (l : Fin 128) : Fin 512 := ⟨128 * g.val + l.val, by omega⟩

/-- Group `g`'s logit in lane `l` of row `r`, or −∞ where the group starts past the vocabulary. -/
def grp (i : BitVec 32) (g : Fin 4) (x1 : Vec Ideal S1792x1536 .bf16) (w : Vec Ideal S1536x512 .bf16) (r : Fin 1792) (l : Fin 128) : EReal :=
  Scalar.select (Scalar.cmpi .slt (Scalar.addi (Scalar.muli i 512#32) (BitVec.ofNat 32 (128 * g.val))) 151936#32)
    (∑ x, x1 (ix2 r x) * w (ix2 x (col g l))) (⊥ : EReal)

theorem pay69_apply (i : BitVec 32) (a : Vec Ideal S256x1536 .bf16) (w : Vec Ideal S1536x512 .bf16) (r : Fin 256) (l : Fin 128) :
    k0_pay69 (F := Ideal) i a w (ix2 r l) = Scalar.select (Scalar.cmpi .slt (Scalar.addi (Scalar.muli i 512#32) 0#32) 151936#32)
      (∑ x, a (ix2 r x) * w (ix2 x (col 0 l))) (⊥ : EReal) := by
  pointwise [k0_pay69, k0_pay67]
  rw [mask_bot]
  simp [col]

theorem pay70_apply (i : BitVec 32) (a : Vec Ideal S256x1536 .bf16) (w : Vec Ideal S1536x512 .bf16) (r : Fin 256) (l : Fin 128) :
    k0_pay70 (F := Ideal) i a w (ix2 r l) = Scalar.select (Scalar.cmpi .slt (Scalar.addi (Scalar.muli i 512#32) 128#32) 151936#32)
      (∑ x, a (ix2 r x) * w (ix2 x (col 1 l))) (⊥ : EReal) := by
  pointwise [k0_pay70, k0_pay67]
  rw [mask_bot]
  rfl

theorem pay71_apply (i : BitVec 32) (a : Vec Ideal S256x1536 .bf16) (w : Vec Ideal S1536x512 .bf16) (r : Fin 256) (l : Fin 128) :
    k0_pay71 (F := Ideal) i a w (ix2 r l) = Scalar.select (Scalar.cmpi .slt (Scalar.addi (Scalar.muli i 512#32) 256#32) 151936#32)
      (∑ x, a (ix2 r x) * w (ix2 x (col 2 l))) (⊥ : EReal) := by
  pointwise [k0_pay71, k0_pay67]
  rw [mask_bot]
  rfl

theorem pay72_apply (i : BitVec 32) (a : Vec Ideal S256x1536 .bf16) (w : Vec Ideal S1536x512 .bf16) (r : Fin 256) (l : Fin 128) :
    k0_pay72 (F := Ideal) i a w (ix2 r l) = Scalar.select (Scalar.cmpi .slt (Scalar.addi (Scalar.muli i 512#32) 384#32) 151936#32)
      (∑ x, a (ix2 r x) * w (ix2 x (col 3 l))) (⊥ : EReal) := by
  pointwise [k0_pay72, k0_pay67]
  rw [mask_bot]
  rfl

/-! ## The three lane scratches -/

/-- A family of seven row chunks read at row `r`, lane `l`. -/
theorem canon_lane (P : Fin 7 → S256x128.Idx → Elt Ideal .f32) (r : Fin 1792) (l : Fin 128) (v : Elt Ideal .f32)
    (h : ∀ (k : Fin 7) (p : Fin 256), r.val = 256 * (6 - k.val) + p.val → P k (ix2 p l) = v) :
    View.canon (List.ofFn fun k : Fin 7 => (⟨rLane k, P k⟩ : View.Piece (Elt Ideal) S1792x128 .f32)) (ix2 r l) = v := by
  refine View.canon_ofFn_unit_eq_of_forall (S := S1792x128) (fun k : Fin 7 => ![256 * (6 - k.val), 0]) S256x128.size inbLane _ _ _ ?_ ?_
  · refine ⟨⟨6 - r.val / 256, by omega⟩, fun a => ?_⟩
    fin_cases a
    · show 256 * (6 - (6 - r.val / 256)) ≤ r.val ∧ r.val < 256 * (6 - (6 - r.val / 256)) + 256
      omega
    · show 0 ≤ l.val ∧ l.val < 0 + 128
      omega
  · intro k x hx
    have h0 : r.val = 256 * (6 - k.val) + (x 0).val := hx 0
    have h1 : l.val = 0 + (x 1).val := hx 1
    have e : x = ix2 (x 0) l := by
      funext a; apply Fin.ext
      fin_cases a
      · rfl
      · show (x 1).val = l.val
        omega
    rw [e]
    exact h k _ h0

theorem ld_rows (x1 : Vec Ideal S1792x1536 .bf16) (k : Fin 7) (p : Fin 256) (r : Fin 1792) (q : Fin 1536) (h : r.val = 256 * (6 - k.val) + p.val) :
    View.ld x1 (rRows k) (ix2 p q) = x1 (ix2 r q) := by
  show x1 ((rRows k).emb (ix2 p q)) = _
  congr 1
  funext a; apply Fin.ext; rw [Rect.emb_apply]
  fin_cases a
  · show 256 * (6 - k.val) + 1 * p.val = r.val
    omega
  · show 0 + 1 * q.val = q.val
    omega
theorem ld_tgt (x2 : Vec Ideal S1792x1 .i32) (k : Fin 7) (p : Fin 256) (r : Fin 1792) (h : r.val = 256 * (6 - k.val) + p.val) :
    View.ld x2 (rTgt k) (ix2 p 0) = x2 (ix2 r 0) := by
  show x2 ((rTgt k).emb (ix2 p 0)) = _
  congr 1
  funext a; apply Fin.ext; rw [Rect.emb_apply]
  fin_cases a
  · show 256 * (6 - k.val) + 1 * p.val = r.val
    omega
  · rfl
theorem ld_lane (x : Vec Ideal S1792x128 .f32) (k : Fin 7) (p : Fin 256) (r : Fin 1792) (l : Fin 128) (h : r.val = 256 * (6 - k.val) + p.val) :
    View.ld x (rLane k) (ix2 p l) = x (ix2 r l) := by
  show x ((rLane k).emb (ix2 p l)) = _
  congr 1
  funext a; apply Fin.ext; rw [Rect.emb_apply]
  fin_cases a
  · show 256 * (6 - k.val) + 1 * p.val = r.val
    omega
  · show 0 + 1 * l.val = l.val
    omega

/-- The running maximum and sum over four more values; the target's logit over four more hits. -/
def upM (g : Fin 4 → EReal) (m : EReal) : EReal := max (max (max (max m (g 0)) (g 1)) (g 2)) (g 3)
def upL (g : Fin 4 → EReal) (m l : EReal) : EReal :=
  l * Ideal.exp (m - upM g m) + Ideal.exp (g 0 - upM g m) + Ideal.exp (g 1 - upM g m) + Ideal.exp (g 2 - upM g m) + Ideal.exp (g 3 - upM g m)
def hit (i : BitVec 32) (tg : BitVec 32) (g : Fin 4) (l : Fin 128) : BitVec 1 :=
  IntOp.cmpi .eq (IntOp.subi tg (Scalar.muli i 512#32)) (IntOp.addi (BitVec.ofNat 32 l.val) (BitVec.ofNat 32 (128 * g.val)))
def upZ (h : Fin 4 → BitVec 1) (g : Fin 4 → EReal) (z : EReal) : EReal :=
  Scalar.select (h 3) (g 3) (Scalar.select (h 2) (g 2) (Scalar.select (h 1) (g 1) (Scalar.select (h 0) (g 0) z)))

/-- One chunk's group logit, from the whole rows. -/
theorem pay_grp (i : BitVec 32) (x1 : Vec Ideal S1792x1536 .bf16) (w : Vec Ideal S1536x512 .bf16) (k : Fin 7) (p : Fin 256) (r : Fin 1792) (l : Fin 128)
    (h : r.val = 256 * (6 - k.val) + p.val) :
    k0_pay69 (F := Ideal) i (View.ld x1 (rRows k)) w (ix2 p l) = grp i 0 x1 w r l
    ∧ k0_pay70 (F := Ideal) i (View.ld x1 (rRows k)) w (ix2 p l) = grp i 1 x1 w r l
    ∧ k0_pay71 (F := Ideal) i (View.ld x1 (rRows k)) w (ix2 p l) = grp i 2 x1 w r l
    ∧ k0_pay72 (F := Ideal) i (View.ld x1 (rRows k)) w (ix2 p l) = grp i 3 x1 w r l := by
  rw [pay69_apply, pay70_apply, pay71_apply, pay72_apply]
  simp only [ld_rows x1 k p r _ h]
  exact ⟨rfl, rfl, rfl, rfl⟩

theorem chunkM_apply (i : BitVec 32) (a : Vec Ideal S256x1536 .bf16) (w : Vec Ideal S1536x512 .bf16) (mo : Vec Ideal S256x128 .f32)
    (p : Fin 256) (l : Fin 128) (g : Fin 4 → EReal)
    (h0 : k0_pay69 (F := Ideal) i a w (ix2 p l) = g 0) (h1 : k0_pay70 (F := Ideal) i a w (ix2 p l) = g 1)
    (h2 : k0_pay71 (F := Ideal) i a w (ix2 p l) = g 2) (h3 : k0_pay72 (F := Ideal) i a w (ix2 p l) = g 3) :
    chunkM (F := Ideal) i a w mo (ix2 p l) = upM g (mo (ix2 p l)) := by
  pointwise [chunkM, k0_pay76, k0_pay75, k0_pay73]
  rw [h0, h1, h2, h3]
  rfl

theorem chunkL_apply (i : BitVec 32) (a : Vec Ideal S256x1536 .bf16) (w : Vec Ideal S1536x512 .bf16) (mo lo : Vec Ideal S256x128 .f32)
    (p : Fin 256) (l : Fin 128) (g : Fin 4 → EReal)
    (h0 : k0_pay69 (F := Ideal) i a w (ix2 p l) = g 0) (h1 : k0_pay70 (F := Ideal) i a w (ix2 p l) = g 1)
    (h2 : k0_pay71 (F := Ideal) i a w (ix2 p l) = g 2) (h3 : k0_pay72 (F := Ideal) i a w (ix2 p l) = g 3) :
    chunkL (F := Ideal) i a w mo lo (ix2 p l) = upL g (mo (ix2 p l)) (lo (ix2 p l)) := by
  pointwise [chunkL, k0_pay77, k0_pay75, k0_pay73]
  rw [h0, h1, h2, h3]
  rfl

theorem chunkZ_apply (i : BitVec 32) (a : Vec Ideal S256x1536 .bf16) (tg : Vec Ideal S256x1 .i32) (w : Vec Ideal S1536x512 .bf16) (zo : Vec Ideal S256x128 .f32)
    (p : Fin 256) (l : Fin 128) (g : Fin 4 → EReal)
    (h0 : k0_pay69 (F := Ideal) i a w (ix2 p l) = g 0) (h1 : k0_pay70 (F := Ideal) i a w (ix2 p l) = g 1)
    (h2 : k0_pay71 (F := Ideal) i a w (ix2 p l) = g 2) (h3 : k0_pay72 (F := Ideal) i a w (ix2 p l) = g 3) :
    chunkZ (F := Ideal) i a tg w zo (ix2 p l) = upZ (fun c => hit i (tg (ix2 p 0)) c l) g (zo (ix2 p l)) := by
  pointwise [chunkZ, k0_pay78, k0_pay74, k0_pay68]
  rw [h0, h1, h2, h3]
  rfl

theorem canonM_apply (i : BitVec 32) (x1 : Vec Ideal S1792x1536 .bf16) (w : Vec Ideal S1536x512 .bf16) (mo : Vec Ideal S1792x128 .f32)
    (r : Fin 1792) (l : Fin 128) :
    View.canon (piecesM (F := Ideal) i x1 w mo) (ix2 r l) = upM (fun g => grp i g x1 w r l) (mo (ix2 r l)) := by
  refine canon_lane _ r l _ fun k p h => ?_
  obtain ⟨h0, h1, h2, h3⟩ := pay_grp i x1 w k p r l h
  rw [chunkM_apply i _ w _ p l (fun g => grp i g x1 w r l) h0 h1 h2 h3, ld_lane mo k p r l h]

theorem canonL_apply (i : BitVec 32) (x1 : Vec Ideal S1792x1536 .bf16) (w : Vec Ideal S1536x512 .bf16) (mo lo : Vec Ideal S1792x128 .f32)
    (r : Fin 1792) (l : Fin 128) :
    View.canon (piecesL (F := Ideal) i x1 w mo lo) (ix2 r l) = upL (fun g => grp i g x1 w r l) (mo (ix2 r l)) (lo (ix2 r l)) := by
  refine canon_lane _ r l _ fun k p h => ?_
  obtain ⟨h0, h1, h2, h3⟩ := pay_grp i x1 w k p r l h
  rw [chunkL_apply i _ w _ _ p l (fun g => grp i g x1 w r l) h0 h1 h2 h3, ld_lane mo k p r l h, ld_lane lo k p r l h]

theorem canonZ_apply (i : BitVec 32) (x1 : Vec Ideal S1792x1536 .bf16) (x2 : Vec Ideal S1792x1 .i32) (w : Vec Ideal S1536x512 .bf16) (zo : Vec Ideal S1792x128 .f32)
    (r : Fin 1792) (l : Fin 128) :
    View.canon (piecesZ (F := Ideal) i x1 x2 w zo) (ix2 r l)
      = upZ (fun g => hit i (x2 (ix2 r 0)) g l) (fun g => grp i g x1 w r l) (zo (ix2 r l)) := by
  refine canon_lane _ r l _ fun k p h => ?_
  obtain ⟨h0, h1, h2, h3⟩ := pay_grp i x1 w k p r l h
  rw [chunkZ_apply i _ _ w _ p l (fun g => grp i g x1 w r l) h0 h1 h2 h3, ld_lane zo k p r l h, ld_tgt x2 k p r h]

/-! ## The two results -/

/-- A row's largest logit and log-sum-exp, from its lanes. -/
def topOf (m : Fin 128 → EReal) : EReal := Finset.univ.fold max ⊥ m
def lseOf (m l : Fin 128 → EReal) : EReal := topOf m + Ideal.log (∑ c, l c * Ideal.exp (m c - topOf m))

theorem pay1_apply (m l : Vec Ideal S1792x128 .f32) (r : Fin 1792) :
    k0_pay1 (F := Ideal) m l (ix2 r 0) = lseOf (fun c => m (ix2 r c)) (fun c => l (ix2 r c)) := by
  pointwise [k0_pay1]
  rw [Spec.neg_inf]
  rfl

theorem pay3_apply (m l z : Vec Ideal S1792x128 .f32) (r : Fin 1792) :
    k0_pay3 (F := Ideal) m l z (ix2 r 0)
      = (∑ c, z (ix2 r c)) - lseOf (fun c => m (ix2 r c)) (fun c => l (ix2 r c)) + Ideal.ofBits .f32 0x413EE641#32 := by
  pointwise [k0_pay3]
  rw [pay1_apply]

theorem pay2_apply (m l : Vec Ideal S1792x128 .f32) (r : Fin 1792) :
    k0_pay2 (F := Ideal) m l (ix2 r 0)
      = lseOf (fun c => m (ix2 r c)) (fun c => l (ix2 r c)) - Ideal.ofBits .f32 0x413EE641#32 := by
  pointwise [k0_pay2]
  rw [pay1_apply]

end Cert.Proof.KernelIdeal
-- ==== Proof.Step.lean ====
/-
  One grid point's step, as the row's arithmetic: group `g` of tile `t` is columns `128·(4t+g) …` of the row's logits, a hit is
  the target's own column, and the three lane scratches after tile `t` are the online maximum, sum and pick of `4(t+1)` groups.
-/
module

public import proofs.«01_k».proof.Proof.Point

@[expose] public section

set_option maxRecDepth 16384

noncomputable section

open Idealize Idealize.ShloMosaic Cert.KernelIdeal Cert.KernelIdeal.Gen

namespace Cert.Proof.KernelIdeal

/-- The group's first column, as the body computes it. -/
theorem base_toNat (t : ℕ) (ht : t < 297) (g : Fin 4) :
    (Scalar.addi (Scalar.muli (BitVec.ofNat 32 t) 512#32) (BitVec.ofNat 32 (128 * g.val))).toNat = 512 * t + 128 * g.val := by
  show (BitVec.ofNat 32 t * 512#32 + BitVec.ofNat 32 (128 * g.val)).toNat = _
  simp only [BitVec.toNat_add, BitVec.toNat_mul, BitVec.toNat_ofNat]
  omega

/-- Whether a group lies inside the vocabulary is decided by its first column. -/
theorem masked_iff (t : ℕ) (ht : t < 297) (g : Fin 4) (l : Fin 128) :
    Scalar.cmpi .slt (Scalar.addi (Scalar.muli (BitVec.ofNat 32 t) 512#32) (BitVec.ofNat 32 (128 * g.val))) 151936#32 = 1#1
      ↔ 128 * (4 * t + g.val) + l.val < Spec.vocab := by
  have h := base_toNat t ht g
  show IntOp.cmpi .slt _ _ = 1#1 ↔ _
  rw [IntOp.cmpi_slt, BitVec.toInt_eq_toNat_of_lt (by omega), h]
  have : (151936#32 : BitVec 32).toInt = 151936 := by decide
  rw [this]
  show _ ↔ _ < 151936
  have := l.isLt
  omega

/-- A group's logit in a lane is the row's logit at the lane's column, for any weight tile that agrees with the vocabulary's
    columns inside the vocabulary. -/
theorem grp_eq (a : Vec Ideal S1792x1536 .bf16) (w : Vec Ideal S1536x151936 .fp8e4m3) (s : Vec Ideal S48x151936 .i8)
    (x3 : Vec Ideal S1536x512 .fp8e4m3) (x4 : Vec Ideal S48x512 .i8) (t : ℕ) (ht : t < 297)
    (h3 : ∀ (k : Fin 1536) (q : Fin 512) (hq : 512 * t + q.val < Spec.vocab), x3 (ix2 k q) = w (ix2 k ⟨512 * t + q.val, hq⟩))
    (h4 : ∀ (b : Fin 48) (q : Fin 512) (hq : 512 * t + q.val < Spec.vocab), x4 (ix2 b q) = s (ix2 b ⟨512 * t + q.val, hq⟩))
    (g : Fin 4) (r : Fin 1792) (l : Fin 128) :
    grp (BitVec.ofNat 32 t) g a (wbOf x3 x4) r l = Spec.X a w s r (128 * (4 * t + g.val) + l.val) := by
  unfold grp Scalar.select Spec.X
  simp only [show (1 : BitVec 1) = 1#1 from rfl, masked_iff t ht g l]
  by_cases h : 128 * (4 * t + g.val) + l.val < Spec.vocab
  · rw [if_pos h, dif_pos h]
    refine Finset.sum_congr rfl fun k _ => ?_
    have hq : 512 * t + (col g l).val < Spec.vocab := by
      show 512 * t + (128 * g.val + l.val) < _
      omega
    have e : (⟨512 * t + (col g l).val, hq⟩ : Fin Spec.vocab) = ⟨128 * (4 * t + g.val) + l.val, h⟩ := by
      apply Fin.ext
      show 512 * t + (128 * g.val + l.val) = 128 * (4 * t + g.val) + l.val
      omega
    rw [wbOf_apply, h3 k (col g l) hq, h4 _ (col g l) hq, e]
  · rw [if_neg h, dif_neg h]

/-- A hit is the target's own column. -/
theorem hit_iff (t : ℕ) (ht : t < 297) (tg : BitVec 32) (g : Fin 4) (l : Fin 128) :
    hit (BitVec.ofNat 32 t) tg g l = 1#1 ↔ tg.toNat = 128 * (4 * t + g.val) + l.val := by
  unfold hit
  rw [IntOp.cmpi_eq]
  show tg - BitVec.ofNat 32 t * 512#32 = BitVec.ofNat 32 l.val + BitVec.ofNat 32 (128 * g.val) ↔ _
  have htg := tg.isLt
  have hg := g.isLt
  have hl := l.isLt
  rw [← BitVec.toNat_inj]
  simp only [BitVec.toNat_sub, BitVec.toNat_add, BitVec.toNat_mul, BitVec.toNat_ofNat]
  omega

/-- The state of a row's lane after `n` groups. -/
def LaneInv (x : ℕ → EReal) (tg n : ℕ) (l : Fin 128) (m s z : EReal) : Prop :=
  Lanes.Online (fun j => x (128 * j + l.val)) n m s ∧ z = Lanes.pick x 128 tg n l.val

theorem laneInv_zero (x : ℕ → EReal) (tg : ℕ) (l : Fin 128) : LaneInv x tg 0 l ⊥ 0 0 :=
  ⟨Lanes.online_zero _, by simp [Lanes.pick]⟩

/-- One tile's four groups. -/
theorem laneInv_step (x : ℕ → EReal) (tg : BitVec 32) (t : ℕ) (ht : t < 297) (l : Fin 128) (m s z : EReal)
    (g : Fin 4 → EReal) (hg : ∀ c : Fin 4, g c = x (128 * (4 * t + c.val) + l.val))
    (h : LaneInv x tg.toNat (4 * t) l m s z) :
    LaneInv x tg.toNat (4 * (t + 1)) l (upM g m) (upL g m s) (upZ (fun c => hit (BitVec.ofNat 32 t) tg c l) g z) := by
  obtain ⟨ho, hz⟩ := h
  have g0 : g 0 = x (128 * (4 * t) + l.val) := hg 0
  have g1 : g 1 = x (128 * (4 * t + 1) + l.val) := hg 1
  have g2 : g 2 = x (128 * (4 * t + 2) + l.val) := hg 2
  have g3 : g 3 = x (128 * (4 * t + 3) + l.val) := hg 3
  have e4 : 4 * (t + 1) = 4 * t + 4 := by ring
  refine ⟨?_, ?_⟩
  · rw [e4]
    have := ho.four (upM g m) (by unfold upM; rw [g0, g1, g2, g3])
    unfold upL
    rw [g0, g1, g2, g3]
    exact this
  · have hl := l.isLt
    unfold upZ Scalar.select
    simp only [show (1 : BitVec 1) = 1#1 from rfl, hit_iff t ht tg _ l]
    rw [hz]
    unfold Lanes.pick
    have v0 : ((0 : Fin 4) : ℕ) = 0 := rfl
    have v1 : ((1 : Fin 4) : ℕ) = 1 := rfl
    have v2 : ((2 : Fin 4) : ℕ) = 2 := rfl
    have v3 : ((3 : Fin 4) : ℕ) = 3 := rfl
    rw [v0, v1, v2, v3]
    by_cases c3 : tg.toNat = 128 * (4 * t + 3) + l.val
    · rw [if_pos c3, if_pos (by omega), g3, c3]
    · rw [if_neg c3]
      by_cases c2 : tg.toNat = 128 * (4 * t + 2) + l.val
      · rw [if_pos c2, if_pos (by omega), g2, c2]
      · rw [if_neg c2]
        by_cases c1 : tg.toNat = 128 * (4 * t + 1) + l.val
        · rw [if_pos c1, if_pos (by omega), g1, c1]
        · rw [if_neg c1]
          by_cases c0 : tg.toNat = 128 * (4 * t + 0) + l.val
          · rw [if_pos c0, if_pos (by omega), g0, c0]
            rfl
          · rw [if_neg c0]
            have : (tg.toNat % 128 = l.val ∧ tg.toNat / 128 < 4 * t) ↔ (tg.toNat % 128 = l.val ∧ tg.toNat / 128 < 4 * (t + 1)) := by omega
            simp only [this]

/-! ## The whole scratches -/

/-- The scratches after `n` groups, every row and lane. -/
def Inv (a : Vec Ideal S1792x1536 .bf16) (tg : Vec Ideal S1792x1 .i32) (w : Vec Ideal S1536x151936 .fp8e4m3) (s : Vec Ideal S48x151936 .i8)
    (n : ℕ) (M L Z : Vec Ideal S1792x128 .f32) : Prop :=
  ∀ (r : Fin 1792) (l : Fin 128), LaneInv (Spec.X a w s r) (tg (ix2 r 0)).toNat n l (M (ix2 r l)) (L (ix2 r l)) (Z (ix2 r l))

/-- A comparison of the point's number with a constant, widened and tested against zero: the comparison. -/
theorem test_iff (i : grid0.Coords) (n : ℕ) (hn : n < 297) :
    Scalar.cmpi .ne (Scalar.extui (Scalar.cmpi .eq (BitVec.ofNat 32 (i 0).val) (BitVec.ofNat 32 n)) : BitVec 32) 0#32 = 1#1 ↔ (i 0).val = n := by
  have h : (i 0).val < 297 := (i 0).isLt
  have e : Scalar.cmpi .eq (BitVec.ofNat 32 (i 0).val) (BitVec.ofNat 32 n) = 1#1 ↔ (i 0).val = n := by
    show IntOp.cmpi .eq _ _ = 1#1 ↔ _
    rw [IntOp.cmpi_eq, ← BitVec.toNat_inj, BitVec.toNat_ofNat, BitVec.toNat_ofNat]
    omega
  rw [← e]
  generalize Scalar.cmpi .eq (BitVec.ofNat 32 (i 0).val) (BitVec.ofNat 32 n) = b
  revert b
  decide

theorem first_iff (i : grid0.Coords) : first i ↔ (i 0).val = 0 := test_iff i 0 (by norm_num)
theorem cond2_iff (i : grid0.Coords) : k0_cond2 i = 1#1 ↔ (i 0).val = 296 := test_iff i 296 (by norm_num)

theorem pay4_at (y : S1792x128.Idx) : k0_pay4 (F := Ideal) y = (⊥ : EReal) := mask_bot
theorem pay5_at (y : S1792x128.Idx) : k0_pay5 (F := Ideal) y = (0 : EReal) := Ideal.ofBits_zero_f32
theorem pay6_at (y : S1792x128.Idx) : k0_pay6 (F := Ideal) y = (0 : EReal) := Ideal.ofBits_zero_f32

/-- A grid point takes the invariant one tile on; at the first point it starts it. -/
theorem inv_step (a : Vec Ideal S1792x1536 .bf16) (tg : Vec Ideal S1792x1 .i32) (w : Vec Ideal S1536x151936 .fp8e4m3) (s : Vec Ideal S48x151936 .i8)
    (i : grid0.Coords) (x3 : Vec Ideal S1536x512 .fp8e4m3) (x4 : Vec Ideal S48x512 .i8)
    (h3 : ∀ (k : Fin 1536) (q : Fin 512) (hq : 512 * (i 0).val + q.val < Spec.vocab), x3 (ix2 k q) = w (ix2 k ⟨512 * (i 0).val + q.val, hq⟩))
    (h4 : ∀ (b : Fin 48) (q : Fin 512) (hq : 512 * (i 0).val + q.val < Spec.vocab), x4 (ix2 b q) = s (ix2 b ⟨512 * (i 0).val + q.val, hq⟩))
    (M L Z : Vec Ideal S1792x128 .f32) (h : (i 0).val ≠ 0 → Inv a tg w s (4 * (i 0).val) M L Z) :
    Inv a tg w s (4 * ((i 0).val + 1)) (mOut (F := Ideal) i a x3 x4 M) (lOut (F := Ideal) i a x3 x4 M L) (zOut (F := Ideal) i a tg x3 x4 Z) := by
  have ht : (i 0).val < 297 := (i 0).isLt
  intro r l
  unfold mOut lOut zOut
  rw [canonM_apply, canonL_apply, canonZ_apply]
  refine laneInv_step _ _ _ ht l _ _ _ _ (fun c => grp_eq a w s x3 x4 _ ht h3 h4 c r l) ?_
  unfold mIn lIn zIn
  by_cases h0 : (i 0).val = 0
  · have hf := (first_iff i).mpr h0
    rw [if_pos hf, if_pos hf, if_pos hf, pay4_at, pay5_at, pay6_at, h0]
    exact laneInv_zero _ _ l
  · have hf : ¬ first i := fun h' => h0 ((first_iff i).mp h')
    rw [if_neg hf, if_neg hf, if_neg hf]
    exact h h0 r l

/-- After the last point the two results are the row's. -/
theorem lse_final (a : Vec Ideal S1792x1536 .bf16) (tg : Vec Ideal S1792x1 .i32) (w : Vec Ideal S1536x151936 .fp8e4m3) (s : Vec Ideal S48x151936 .i8)
    (M L Z : Vec Ideal S1792x128 .f32) (h : Inv a tg w s (4 * 297) M L Z) (r : Fin 1792) :
    lseOf (fun c => M (ix2 r c)) (fun c => L (ix2 r c)) = Lanes.lse Spec.vocab (Spec.X a w s r) :=
  Lanes.lse_of_lanes (Spec.X a w s r) 128 (4 * 297) Spec.vocab (by norm_num [Spec.vocab]) (Spec.X_pad a w s r) _ _ fun c => (h r c).1

theorem pay2_final (a : Vec Ideal S1792x1536 .bf16) (tg : Vec Ideal S1792x1 .i32) (w : Vec Ideal S1536x151936 .fp8e4m3) (s : Vec Ideal S48x151936 .i8)
    (M L Z : Vec Ideal S1792x128 .f32) (h : Inv a tg w s (4 * 297) M L Z) (r : Fin 1792) :
    k0_pay2 (F := Ideal) M L (ix2 r 0) = Spec.ls (Spec.X a w s r) := by
  rw [pay2_apply, lse_final a tg w s M L Z h]
  rfl

theorem pay3_final (a : Vec Ideal S1792x1536 .bf16) (tg : Vec Ideal S1792x1 .i32) (w : Vec Ideal S1536x151936 .fp8e4m3) (s : Vec Ideal S48x151936 .i8)
    (M L Z : Vec Ideal S1792x128 .f32) (h : Inv a tg w s (4 * 297) M L Z) (r : Fin 1792)
    (htg : (tg (ix2 r 0)).toNat < Spec.vocab ∨ 2 ^ 31 ≤ (tg (ix2 r 0)).toNat) :
    k0_pay3 (F := Ideal) M L Z (ix2 r 0) = Spec.lp (Spec.X a w s r) (tg (ix2 r 0)).toNat := by
  rw [pay3_apply, lse_final a tg w s M L Z h]
  have hz : ∑ c, Z (ix2 r c) = Spec.picked (Spec.X a w s r) (tg (ix2 r 0)).toNat := by
    rw [Finset.sum_congr rfl fun c _ => (h r c).2]
    exact Lanes.sum_pick (Spec.X a w s r) 128 _ (4 * 297) Spec.vocab (by norm_num) (by norm_num [Spec.vocab])
      (htg.imp id fun h => by omega)
  rw [hz]
  rfl

end Cert.Proof.KernelIdeal
-- ==== Proof.Blocks.lean ====
/-
  What the pipeline stages at each grid point (untrusted, hand-written): the rows and the targets whole, and tile `t` of the
  weights and of the scales, whose columns inside the vocabulary are the array's (the last tile overhangs it, and nothing is
  said of a staging buffer past the edge).
-/
module

public import proofs.«01_k».proof.Proof.FrameKernelIdeal
public import proofs.«01_k».proof.Proof.Spec

@[expose] public section

set_option maxRecDepth 16384

noncomputable section

namespace Cert.Proof.KernelIdeal

open Cert.KernelIdeal Cert.KernelIdeal.Gen
open Idealize Idealize.ShloMosaic Idealize.ShloMosaic.TcCoe Idealize.ShloMosaic.Tactic
open Idealize.ShloMosaic.Pipeline (Dat Cfg Window)

variable {F : FTy → Type} [FloatOps F] [Named F]
variable (m : (ℓ : Loc nD τ sig) → Buf (Elt F) ℓ)

/-- A point's one coordinate is its number. -/
theorem coords_val (t : Fin cfg0.N) : (grid0.coords t 0).val = t.val := by
  have h := Pipeline.Grid.coords_val (G := grid0) t 0 (S := 1) (B := 297) (by decide) rfl
  have ht : t.val < 297 := t.isLt
  omega

/-- A coordinate that lands inside the array is among those a clipped block moves. -/
theorem clip_moves {ix k d j : ℕ} (hj : j < k) (h : ix * k + j < d) : j < (Pipeline.Clip.of ix k d).extent k := by
  unfold Pipeline.Clip.of
  split
  · exact hj
  · show j < d - ix * k
    omega

theorem idx_row0 : ∀ t : Fin cfg0.N, win0_0.index t (0 : Fin 2) = 0 ∧ win0_0.index t (1 : Fin 2) = 0 :=
  (by decide +kernel : ∀ t : Fin grid0.N, _)

theorem idx_row1 : ∀ t : Fin cfg0.N, win0_1.index t (0 : Fin 2) = 0 ∧ win0_1.index t (1 : Fin 2) = 0 :=
  (by decide +kernel : ∀ t : Fin grid0.N, _)

theorem idx_row2 : ∀ t : Fin cfg0.N, win0_2.index t (0 : Fin 2) = 0 ∧ win0_2.index t (1 : Fin 2) = t.val :=
  (by decide +kernel : ∀ t : Fin grid0.N, _)

theorem idx_row3 : ∀ t : Fin cfg0.N, win0_3.index t (0 : Fin 2) = 0 ∧ win0_3.index t (1 : Fin 2) = t.val :=
  (by decide +kernel : ∀ t : Fin grid0.N, _)

theorem idx_row4 : ∀ t : Fin cfg0.N, win0_4.index t (0 : Fin 2) = 0 ∧ win0_4.index t (1 : Fin 2) = 0 :=
  (by decide +kernel : ∀ t : Fin grid0.N, _)

theorem idx_row5 : ∀ t : Fin cfg0.N, win0_5.index t (0 : Fin 2) = 0 ∧ win0_5.index t (1 : Fin 2) = 0 :=
  (by decide +kernel : ∀ t : Fin grid0.N, _)

/-- The rows are staged whole. -/
theorem iblk0_eq (c : Dev nD) (t : Fin cfg0.N) : iblk m c 0 t = m ((c : Thread nD τ).loc main_arg0) := by
  funext j
  show V m c main_arg0 (((cfg0.win 0).blk t).view.emb j) = V m c main_arg0 j
  have e : ((cfg0.win 0).blk t).view.emb j = j := by
    obtain ⟨e0, e1⟩ := idx_row0 t
    funext a; apply Fin.ext
    match a with
    | ⟨0, _⟩ => show win0_0.index t (0 : Fin 2) * 1792 + 1 * (j 0).val = (j 0).val; omega
    | ⟨1, _⟩ => show win0_0.index t (1 : Fin 2) * 1536 + 1 * (j 1).val = (j 1).val; omega
  rw [e]

/-- The targets are staged whole. -/
theorem iblk1_eq (c : Dev nD) (t : Fin cfg0.N) : iblk m c 1 t = m ((c : Thread nD τ).loc main_arg1) := by
  funext j
  show V m c main_arg1 (((cfg0.win 1).blk t).view.emb j) = V m c main_arg1 j
  have e : ((cfg0.win 1).blk t).view.emb j = j := by
    obtain ⟨e0, e1⟩ := idx_row1 t
    funext a; apply Fin.ext
    match a with
    | ⟨0, _⟩ => show win0_1.index t (0 : Fin 2) * 1792 + 1 * (j 0).val = (j 0).val; omega
    | ⟨1, _⟩ => show win0_1.index t (1 : Fin 2) * 1 + 1 * (j 1).val = (j 1).val; omega
  rw [e]

/-- Tile `t` of the weights, whatever lies past the edge. -/
def tile2 (c : Dev nD) (t : Fin cfg0.N) (d : Vec F S1536x512 .fp8e4m3) : Vec F S1536x512 .fp8e4m3 :=
  win0_2.fill (grid0.coords t) d (iblk m c 2 t)

/-- Tile `t` of the scales, whatever lies past the edge. -/
def tile3 (c : Dev nD) (t : Fin cfg0.N) (d : Vec F S48x512 .i8) : Vec F S48x512 .i8 :=
  win0_3.fill (grid0.coords t) d (iblk m c 3 t)

theorem tile2_apply (c : Dev nD) (t : Fin cfg0.N) (d : Vec F S1536x512 .fp8e4m3) (k : Fin 1536) (q : Fin 512)
    (hq : 512 * t.val + q.val < Spec.vocab) :
    tile2 m c t d (ix2 k q) = m ((c : Thread nD τ).loc main_arg2) (ix2 k ⟨512 * t.val + q.val, hq⟩) := by
  obtain ⟨e0, e1⟩ := idx_row2 t
  have hq' : 512 * t.val + q.val < 151936 := hq
  have hm : win0_2.moved (grid0.coords t) (ix2 k q) = true := (win0_2.moved_iff _ _).mpr fun a => by
    match a with
    | ⟨0, _⟩ =>
      refine clip_moves (ix := win0_2.index t (0 : Fin 2)) (k := 1536) (d := 1536) k.isLt ?_
      show win0_2.index t (0 : Fin 2) * 1536 + k.val < 1536
      have := k.isLt; omega
    | ⟨1, _⟩ =>
      refine clip_moves (ix := win0_2.index t (1 : Fin 2)) (k := 512) (d := 151936) q.isLt ?_
      show win0_2.index t (1 : Fin 2) * 512 + q.val < 151936
      omega
  unfold tile2 Window.fill
  rw [dif_pos hm]
  show V m c main_arg2 (((cfg0.win 2).blk t).view.emb _) = V m c main_arg2 _
  congr 1
  funext a; apply Fin.ext
  match a with
  | ⟨0, _⟩ => show win0_2.index t (0 : Fin 2) * 1536 + 1 * k.val = k.val; omega
  | ⟨1, _⟩ => show win0_2.index t (1 : Fin 2) * 512 + 1 * q.val = 512 * t.val + q.val; omega

theorem tile3_apply (c : Dev nD) (t : Fin cfg0.N) (d : Vec F S48x512 .i8) (b : Fin 48) (q : Fin 512)
    (hq : 512 * t.val + q.val < Spec.vocab) :
    tile3 m c t d (ix2 b q) = m ((c : Thread nD τ).loc main_arg3) (ix2 b ⟨512 * t.val + q.val, hq⟩) := by
  obtain ⟨e0, e1⟩ := idx_row3 t
  have hq' : 512 * t.val + q.val < 151936 := hq
  have hm : win0_3.moved (grid0.coords t) (ix2 b q) = true := (win0_3.moved_iff _ _).mpr fun a => by
    match a with
    | ⟨0, _⟩ =>
      refine clip_moves (ix := win0_3.index t (0 : Fin 2)) (k := 48) (d := 48) b.isLt ?_
      show win0_3.index t (0 : Fin 2) * 48 + b.val < 48
      have := b.isLt; omega
    | ⟨1, _⟩ =>
      refine clip_moves (ix := win0_3.index t (1 : Fin 2)) (k := 512) (d := 151936) q.isLt ?_
      show win0_3.index t (1 : Fin 2) * 512 + q.val < 151936
      omega
  unfold tile3 Window.fill
  rw [dif_pos hm]
  show V m c main_arg3 (((cfg0.win 3).blk t).view.emb _) = V m c main_arg3 _
  congr 1
  funext a; apply Fin.ext
  match a with
  | ⟨0, _⟩ => show win0_3.index t (0 : Fin 2) * 48 + 1 * b.val = b.val; omega
  | ⟨1, _⟩ => show win0_3.index t (1 : Fin 2) * 512 + 1 * q.val = 512 * t.val + q.val; omega

/-- The two results' blocks are their whole arrays. -/
theorem emb4 (t : Fin cfg0.N) (j : S1792x1.Idx) : ((cfg0.win 4).blk t).view.emb j = j := by
  obtain ⟨e0, e1⟩ := idx_row4 t
  funext a; apply Fin.ext
  match a with
  | ⟨0, _⟩ => show win0_4.index t (0 : Fin 2) * 1792 + 1 * (j 0).val = (j 0).val; omega
  | ⟨1, _⟩ => show win0_4.index t (1 : Fin 2) * 1 + 1 * (j 1).val = (j 1).val; omega

theorem emb5 (t : Fin cfg0.N) (j : S1792x1.Idx) : ((cfg0.win 5).blk t).view.emb j = j := by
  obtain ⟨e0, e1⟩ := idx_row5 t
  funext a; apply Fin.ext
  match a with
  | ⟨0, _⟩ => show win0_5.index t (0 : Fin 2) * 1792 + 1 * (j 0).val = (j 0).val; omega
  | ⟨1, _⟩ => show win0_5.index t (1 : Fin 2) * 1 + 1 * (j 1).val = (j 1).val; omega

/-- The last point. -/
abbrev last0 : Fin cfg0.N := ⟨296, by decide⟩

/-- It flushes both results, and its block covers each. -/
theorem covered4 (i : S1792x1.Idx) :
    ∃ t : Fin cfg0.N, (cfg0.win 4).flush t = true ∧ i ∈ ((cfg0.win 4).blk t).view.set :=
  ⟨last0, (flush0_4 _).mpr rfl, by have h := ((cfg0.win 4).blk last0).view.emb_mem_set i; rwa [emb4] at h⟩

theorem covered5 (i : S1792x1.Idx) :
    ∃ t : Fin cfg0.N, (cfg0.win 5).flush t = true ∧ i ∈ ((cfg0.win 5).blk t).view.set :=
  ⟨last0, (flush0_5 _).mpr rfl, by have h := ((cfg0.win 5).blk last0).view.emb_mem_set i; rwa [emb5] at h⟩

end Cert.Proof.KernelIdeal

end
-- ==== Proof.Launch.lean ====
/-
  The launch of the idealized head, with its values: between grid points the three lane scratches hold the online maximum, sum
  and pick of the column groups done (`Inv`), so the last point writes back every row's log-probability and log-sum-exp.
-/
module

public import proofs.«01_k».proof.Proof.Step
public import proofs.«01_k».proof.Proof.Blocks

@[expose] public section

set_option maxRecDepth 16384

noncomputable section

namespace Cert.Proof.KernelIdeal

open Cert.KernelIdeal Cert.KernelIdeal.Gen
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

/-- Every row's log-probability of its target. -/
def lpArr (a : Vec Ideal S1792x1536 .bf16) (tg : Vec Ideal S1792x1 .i32) (w : Vec Ideal S1536x151936 .fp8e4m3) (s : Vec Ideal S48x151936 .i8) :
    Vec Ideal S1792x1 .f32 :=
  fun y => Spec.lp (Spec.X a w s (y 0)) (tg (ix2 (y 0 : Fin 1792) (0 : Fin 1))).toNat

/-- Every row's log-sum-exp. -/
def lsArr (a : Vec Ideal S1792x1536 .bf16) (w : Vec Ideal S1536x151936 .fp8e4m3) (s : Vec Ideal S48x151936 .i8) :
    Vec Ideal S1792x1 .f32 :=
  fun y => Spec.ls (Spec.X a w s (y 0))

/-- An index of a column is its row. -/
theorem col_eta (y : S1792x1.Idx) : y = ix2 (y 0 : Fin 1792) (0 : Fin 1) := by
  funext a
  match a with
  | ⟨0, _⟩ => rfl
  | ⟨1, _⟩ => exact Subsingleton.elim (α := Fin 1) _ _

variable (m : (ℓ : Loc nD τ sig) → Buf (Elt Ideal) ℓ) (ρ : Dev nD → PrngReg)

/-- The argument arrays, by name. -/
abbrev rowsA (c : Dev nD) : Vec Ideal S1792x1536 .bf16 := m ((c : Thread nD τ).loc main_arg0)
abbrev tgA (c : Dev nD) : Vec Ideal S1792x1 .i32 := m ((c : Thread nD τ).loc main_arg1)
abbrev wA (c : Dev nD) : Vec Ideal S1536x151936 .fp8e4m3 := m ((c : Thread nD τ).loc main_arg2)
abbrev sA (c : Dev nD) : Vec Ideal S48x151936 .i8 := m ((c : Thread nD τ).loc main_arg3)

/-- What is held between points, `n` points done: the lane scratches at the online values of `4n` groups (at anything before
    the first point), the two staging scratches and the generator register at anything. -/
def PhiS (c : Dev nD) (n : ℕ) : sProp 𝕄 :=
  iprop((∃ d, owns (c : Thread nD τ) (Memref.whole cc0_scratch0) fullShare d) ∗ (∃ d, owns (c : Thread nD τ) (Memref.whole cc0_scratch1) fullShare d)
    ∗ (∃ M L Z, ⌜n ≠ 0 → Inv (rowsA m c) (tgA m c) (wA m c) (sA m c) (4 * n) M L Z⌝
        ∗ owns (c : Thread nD τ) (Memref.whole cc0_scratch2) fullShare M ∗ owns (c : Thread nD τ) (Memref.whole cc0_scratch3) fullShare L
        ∗ owns (c : Thread nD τ) (Memref.whole cc0_scratch4) fullShare Z)
    ∗ ∃ r, prngReg c r)

/-- The proof data: inputs staged as they are, the results at the specification. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile2 m c t (Pipeline.Dat.unnamed (cfg := cfg0) 2 t)
    | ⟨3, _⟩ => tile3 m c t (Pipeline.Dat.unnamed (cfg := cfg0) 3 t)
    | ⟨4, _⟩ => lpArr (rowsA m c) (tgA m c) (wA m c) (sA m c)
    | ⟨5, _⟩ => lsArr (rowsA m c) (wA m c) (sA m c)
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tile2 m c t (Pipeline.Dat.unnamed (cfg := cfg0) 2 t) := by dsimp only [dats]
theorem after0_3 (c : Dev nD) (t : Fin cfg0.N) : (dats m 0 c).after 3 t = tile3 m c t (Pipeline.Dat.unnamed (cfg := cfg0) 3 t) := by dsimp only [dats]
theorem after0_4 (c : Dev nD) (t : Fin cfg0.N) : (dats m 0 c).after 4 t = lpArr (rowsA m c) (tgA m c) (wA m c) (sA m c) := by dsimp only [dats]
theorem after0_5 (c : Dev nD) (t : Fin cfg0.N) : (dats m 0 c).after 5 t = lsArr (rowsA m c) (wA m c) (sA m c) := by dsimp only [dats]

theorem Phi_at (c : Dev nD) (t : Fin (cfg0.N + 1)) : (dats m 0 c).Φ t = PhiS m c t.val := by dsimp only [dats]

theorem Phi_castSucc (c : Dev nD) (t : Fin cfg0.N) : (dats m 0 c).Φ t.castSucc = PhiS m c t.val :=
  (Phi_at m c t.castSucc).trans (Pipeline.Dat.Φ_castSucc (N := cfg0.N) (fun n _ => PhiS m c n) t)

theorem Phi_succ (c : Dev nD) (t : Fin cfg0.N) : (dats m 0 c).Φ t.succ = PhiS m c (t.val + 1) :=
  (Phi_at m c t.succ).trans (congrArg (PhiS m c) (Fin.val_succ t))

theorem before0_0 (c : Dev nD) (t : Fin cfg0.N) (d) : (dats m 0 c).before 0 t d = rowsA m c :=
  (before0_0_of m (dats m 0 c) (A_eq m c 0) (after0_0 m c) t d).trans (iblk0_eq m c t)

theorem before0_1 (c : Dev nD) (t : Fin cfg0.N) (d) : (dats m 0 c).before 1 t d = tgA m c :=
  (before0_1_of m (dats m 0 c) (A_eq m c 1) (after0_1 m c) t d).trans (iblk1_eq m c t)

theorem before0_2 (c : Dev nD) (t : Fin cfg0.N) (d) : (dats m 0 c).before 2 t d = tile2 m c t d := by
  unfold Dat.before; rw [if_pos (fetch0_2 t)]; unfold Dat.fetched Dat.blockOf tile2 iblk; rw [A_eq]

theorem before0_3 (c : Dev nD) (t : Fin cfg0.N) (d) : (dats m 0 c).before 3 t d = tile3 m c t d := by
  unfold Dat.before; rw [if_pos (fetch0_3 t)]; unfold Dat.fetched Dat.blockOf tile3 iblk; rw [A_eq]

/-- What is left of a clipped tile, on the part its transfer moves. -/
theorem left2 (c : Dev nD) (t : Fin cfg0.N) (d : Vec Ideal S1536x512 .fp8e4m3) :
    (cfg0.win 2).fill (cfg0.grid.coords t) d ((cfg0.win 2).cut (cfg0.grid.coords t) ((dats m 0 c).after 2 t)) = tile2 m c t d := by
  rw [after0_2]; unfold tile2
  exact congrArg (win0_2.fill (grid0.coords t) d) (win0_2.cut_fill (grid0.coords t) _ _)

theorem left3 (c : Dev nD) (t : Fin cfg0.N) (d : Vec Ideal S48x512 .i8) :
    (cfg0.win 3).fill (cfg0.grid.coords t) d ((cfg0.win 3).cut (cfg0.grid.coords t) ((dats m 0 c).after 3 t)) = tile3 m c t d := by
  rw [after0_3]; unfold tile3
  exact congrArg (win0_3.fill (grid0.coords t) d) (win0_3.cut_fill (grid0.coords t) _ _)

/-- So the tile handed back is the tile as staged, at whatever lay past the edge. -/
theorem give2 (c : Dev nD) (t : Fin cfg0.N) (d : Vec Ideal S1536x512 .fp8e4m3) :
    owns (c : Thread nD τ) (st0_2 t) fullShare (tile2 m c t d)
      ⊢ (iprop(∃ d, owns (c : Thread nD τ) (st0_2 t) fullShare ((cfg0.win 2).fill (cfg0.grid.coords t) d ((cfg0.win 2).cut (cfg0.grid.coords t) ((dats m 0 c).after 2 t)))) : sProp 𝕄) := by
  iintro H; iexists d; rw [left2]; iexact H

theorem give3 (c : Dev nD) (t : Fin cfg0.N) (d : Vec Ideal S48x512 .i8) :
    owns (c : Thread nD τ) (st0_3 t) fullShare (tile3 m c t d)
      ⊢ (iprop(∃ d, owns (c : Thread nD τ) (st0_3 t) fullShare ((cfg0.win 3).fill (cfg0.grid.coords t) d ((cfg0.win 3).cut (cfg0.grid.coords t) ((dats m 0 c).after 3 t)))) : sProp 𝕄) := by
  iintro H; iexists d; rw [left3]; iexact H

/-- One point keeps the invariant. -/
theorem inv_point (c : Dev nD) (t : Fin cfg0.N) (d2 : Vec Ideal S1536x512 .fp8e4m3) (d3 : Vec Ideal S48x512 .i8) (M L Z : Vec Ideal S1792x128 .f32)
    (h : t.val ≠ 0 → Inv (rowsA m c) (tgA m c) (wA m c) (sA m c) (4 * t.val) M L Z) :
    Inv (rowsA m c) (tgA m c) (wA m c) (sA m c) (4 * (t.val + 1)) (mOut (grid0.coords t) (rowsA m c) (tile2 m c t d2) (tile3 m c t d3) M)
      (lOut (grid0.coords t) (rowsA m c) (tile2 m c t d2) (tile3 m c t d3) M L) (zOut (grid0.coords t) (rowsA m c) (tgA m c) (tile2 m c t d2) (tile3 m c t d3) Z) := by
  have e := coords_val t
  have := inv_step (rowsA m c) (tgA m c) (wA m c) (sA m c) (grid0.coords t) (tile2 m c t d2) (tile3 m c t d3)
    (by rw [e]; exact fun k q hq => tile2_apply m c t d2 k q hq) (by rw [e]; exact fun k q hq => tile3_apply m c t d3 k q hq) M L Z
    (by rw [e]; exact h)
  rwa [e] at this

/-- The condition of the results' store: the last point. -/
theorem store_iff (t : Fin cfg0.N) : k0_cond2 (grid0.coords t) = 1#1 ↔ t.val = 296 := by
  rw [cond2_iff, coords_val]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it returns of the inputs, the results' buffers apart. -/
def bodyPost (c : Dev nD) (t : Fin cfg0.N) (R4 R5 : sProp 𝕄) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t))))
    ∗ R4 ∗ R5)

/-- The body at any point, for any reading of what it leaves in the results' buffers. -/
theorem sound_body (c : Dev nD) (t : Fin cfg0.N) (R4 R5 : sProp 𝕄)
    (h4 : ∀ (d : Vec Ideal S1792x1 .f32) (d2 d3 M L Z), (t.val ≠ 0 → Inv (rowsA m c) (tgA m c) (wA m c) (sA m c) (4 * t.val) M L Z) →
      owns (c : Thread nD τ) (st0_4 t) fullShare (lpOut (grid0.coords t) (rowsA m c) (tgA m c) (tile2 m c t d2) (tile3 m c t d3) ((dats m 0 c).before 4 t d) M L Z) ⊢ R4)
    (h5 : ∀ (d : Vec Ideal S1792x1 .f32) (d2 d3 M L Z), (t.val ≠ 0 → Inv (rowsA m c) (tgA m c) (wA m c) (sA m c) (4 * t.val) M L Z) →
      owns (c : Thread nD τ) (st0_5 t) fullShare (lseOut (grid0.coords t) (rowsA m c) (tile2 m c t d2) (tile3 m c t d3) ((dats m 0 c).before 5 t d) M L) ⊢ R5) :
    bodyPre m c t ⊢ wp Idealize.ShloMosaic.frame (wpE (defs₀ (F := Ideal)) Variants.none c none) Set.univ (bodyAt0 t) (fun _ => bodyPost m c t R4 R5) := by
  unfold bodyPre bodyPost bodyAt0
  simp only [before0_0, before0_1, before0_2, before0_3]
  rw [Phi_castSucc, Phi_succ, show (dats m 0 c).owesAt () t.succ = (dats m 0 c).owesAt () t.castSucc from rfl, after0_0, after0_1, iblk0_eq, iblk1_eq]
  unfold PhiS
  iintro ⟨⟨Hs0, Hs1, ⟨%M, %L, %Z, %hI, HM, HL, HZ⟩, Hp⟩, Ho, ⟨%d0, H0⟩, ⟨%d1, H1⟩, ⟨%d2, H2⟩, ⟨%d3, H3⟩, ⟨%d4, H4⟩, ⟨%d5, H5⟩⟩
  iapply (run c Set.univ (grid0.coords t) _ _ _ _ _ _ _ _ _ _ _ _ _ _ _ _ _ _ _ _ _ _ (rowsA m c) (tgA m c) (tile2 m c t d2) (tile3 m c t d3)
    ((dats m 0 c).before 4 t d4) ((dats m 0 c).before 5 t d5) M L Z _)
  isplitl [H0]; · iexact H0
  isplitl [H1]; · iexact H1
  isplitl [H2]; · iexact H2
  isplitl [H3]; · iexact H3
  isplitl [H4]; · iexact H4
  isplitl [H5]; · iexact H5
  isplitl [Hs0]; · iexact Hs0
  isplitl [Hs1]; · iexact Hs1
  isplitl [HM]; · iexact HM
  isplitl [HL]; · iexact HL
  isplitl [HZ]; · iexact HZ
  iintro ⟨H0, H1, H2, H3, H4, H5, Hs0, Hs1, HM, HL, HZ⟩
  isplitl [Hs0 Hs1 HM HL HZ Hp]
  · isplitl [Hs0]; · iexact Hs0
    isplitl [Hs1]; · iexact Hs1
    isplitr [Hp]
    · iexists _, _, _
      isplitr
      swap
      · isplitl [HM]; · iexact HM
        isplitl [HL]; · iexact HL
        iexact HZ
      · ipureintro
        exact fun _ => inv_point m c t d2 d3 M L Z hI
    · iexact Hp
  isplitl [Ho]; · iexact Ho
  isplitl [H0]; · iexact H0
  isplitl [H1]; · iexact H1
  isplitl [H2]; · iapply (give2 m c t d2); iexact H2
  isplitl [H3]; · iapply (give3 m c t d3); iexact H3
  isplitl [H4]
  · iapply (h4 d4 d2 d3 M L Z hI); iexact H4
  · iapply (h5 d5 d2 d3 M L Z hI); iexact H5

/-- The targets, as the precondition leaves them: inside the vocabulary, or negative. -/
def TgOk (c : Dev nD) : Prop := ∀ r : Fin 1792, (tgA m c (ix2 r 0)).toNat < Spec.vocab ∨ 2 ^ 31 ≤ (tgA m c (ix2 r 0)).toNat

/-- The last point's first result. -/
theorem lp_last (c : Dev nD) (t : Fin cfg0.N) (ht : t.val = 296) (hok : TgOk m c) (x5 : Vec Ideal S1792x1 .f32) (d2 : Vec Ideal S1536x512 .fp8e4m3) (d3 : Vec Ideal S48x512 .i8)
    (M L Z : Vec Ideal S1792x128 .f32) (h : t.val ≠ 0 → Inv (rowsA m c) (tgA m c) (wA m c) (sA m c) (4 * t.val) M L Z) :
    lpOut (grid0.coords t) (rowsA m c) (tgA m c) (tile2 m c t d2) (tile3 m c t d3) x5 M L Z = lpArr (rowsA m c) (tgA m c) (wA m c) (sA m c) := by
  unfold lpOut
  rw [if_pos ((store_iff t).mpr ht)]
  have hi := inv_point m c t d2 d3 M L Z h
  rw [ht] at hi
  funext y
  rw [col_eta y]
  exact pay3_final _ _ _ _ _ _ _ hi (y 0) (hok (y 0))

/-- The last point's second result. -/
theorem lse_last (c : Dev nD) (t : Fin cfg0.N) (ht : t.val = 296) (x6 : Vec Ideal S1792x1 .f32) (d2 : Vec Ideal S1536x512 .fp8e4m3) (d3 : Vec Ideal S48x512 .i8)
    (M L Z : Vec Ideal S1792x128 .f32) (h : t.val ≠ 0 → Inv (rowsA m c) (tgA m c) (wA m c) (sA m c) (4 * t.val) M L Z) :
    lseOut (grid0.coords t) (rowsA m c) (tile2 m c t d2) (tile3 m c t d3) x6 M L = lsArr (rowsA m c) (wA m c) (sA m c) := by
  unfold lseOut
  rw [if_pos ((store_iff t).mpr ht)]
  have hi := inv_point m c t d2 d3 M L Z h
  rw [ht] at hi
  funext y
  rw [col_eta y]
  exact pay2_final _ _ _ _ _ _ _ hi (y 0)

/-- The obligation. At the last point both results are stored; at every other one their buffers pass through. -/
theorem obligation (hok : ∀ c, TgOk m c) (c : Dev nD) :
    BodyObligationLoose (dats m 0 c) (defs₀ (F := Ideal)) Variants.none () Set.univ := fun t => by
  rw [bigSep_W0, bigSep_W0, defs₀_row]
  have hlt : t.val < 297 := t.isLt
  by_cases ht : t.val = 296
  · have i4 : cfg0.idle 4 (cfg0.grid.coords t) = false := by
      show (!(k0_cond2 (grid0.coords t) == 1#1)) = false
      rw [(store_iff t).mpr ht]; rfl
    rewrite [i4]
    exact triple_restated (sound_body m c t (owns (c : Thread nD τ) (st0_4 t) fullShare ((dats m 0 c).after 4 t))
        (owns (c : Thread nD τ) (st0_5 t) fullShare ((dats m 0 c).after 5 t))
        (fun d d2 d3 M L Z h => by rw [lp_last m c t ht (hok c) _ d2 d3 M L Z h, after0_4])
        (fun d d2 d3 M L Z h => by rw [lse_last m c t ht _ d2 d3 M L Z h, after0_5])) rfl .rfl fun _ => .rfl
  · have hc : ¬ k0_cond2 (grid0.coords t) = 1#1 := fun h => ht ((store_iff t).mp h)
    have i4 : cfg0.idle 4 (cfg0.grid.coords t) = true := by
      show (!(k0_cond2 (grid0.coords t) == 1#1)) = true
      rw [beq_eq_false_iff_ne.mpr hc]; rfl
    have f4 : (cfg0.win 4).flush t = false := by
      rw [← Bool.not_eq_true, flush0_4]; omega
    have f5 : (cfg0.win 5).flush t = false := by
      rw [← Bool.not_eq_true, flush0_5]; omega
    rewrite [i4]
    rewrite [f4]
    rewrite [f5]
    exact triple_restated (sound_body m c t (iprop(∃ d, owns (c : Thread nD τ) (st0_4 t) fullShare ((dats m 0 c).before 4 t d)))
        (iprop(∃ d, owns (c : Thread nD τ) (st0_5 t) fullShare ((dats m 0 c).before 5 t d)))
        (fun d d2 d3 M L Z h => by unfold lpOut; rw [if_neg hc]; iintro H; iexists d; iexact H)
        (fun d d2 d3 M L Z h => by unfold lseOut; rw [if_neg hc]; iintro H; iexists d; iexact H)) rfl .rfl fun _ => .rfl

/-- Before the first point the scratches hold anything. -/
theorem Phi_in (c : Dev nD) : Pipeline.ΦA spec0 c ⊢ PhiS m c 0 := by
  unfold Pipeline.ΦA PhiS
  rw [scopedRest0_eq]
  simp only [← owns_whole]
  iintro ⟨⟨Hs0, Hs1, ⟨%M, HM⟩, ⟨%L, HL⟩, ⟨%Z, HZ⟩⟩, Hp⟩
  isplitl [Hs0]; · iexact Hs0
  isplitl [Hs1]; · iexact Hs1
  isplitr [Hp]
  · iexists M, L, Z
    isplitr
    · ipureintro; exact fun h => absurd rfl h
    isplitl [HM]; · iexact HM
    isplitl [HL]; · iexact HL
    iexact HZ
  · iexact Hp

/-- After the last point what they hold is forgotten. -/
theorem Phi_out (c : Dev nD) (n : ℕ) : PhiS m c n ⊢ Pipeline.ΦA spec0 c := by
  unfold Pipeline.ΦA PhiS
  rw [scopedRest0_eq]
  simp only [← owns_whole]
  iintro ⟨Hs0, Hs1, ⟨%M, %L, %Z, -, HM, HL, HZ⟩, Hp⟩
  isplitr [Hp]
  · isplitl [Hs0]; · iexact Hs0
    isplitl [Hs1]; · iexact Hs1
    isplitl [HM]; · iexists M; iexact HM
    isplitl [HL]; · iexists L; iexact HL
    iexists Z; iexact HZ
  · iexact Hp

set_option backward.isDefEq.respectTransparency.types false in
/-- The launch. -/
theorem run_main (hok : ∀ c, TgOk m c) : θ_run defs (onTc (τ := τ) (main (F := Ideal))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => obligation m hok c) (hshare := fun c => (dats m 0 c).share_full fun _ => rfl)
    (howed := fun _ _ => rfl) (V := V m) (hmain := hmain m Variants.none) (hA := A_eq m)
    (hin := fun c => Phi_in m c) (hout := fun c => Phi_out m c _)

theorem flushed4_eq (c : Dev nD) (t : Fin cfg0.N) :
    (dats m 0 c).flushed 4 t = ((cfg0.win 4).blk t).view.read (Elt Ideal) (lpArr (rowsA m c) (tgA m c) (wA m c) (sA m c)) := by
  show (cfg0.win 4).cut (grid0.coords t) ((dats m 0 c).after 4 t) = _
  rw [after0_4]
  funext j
  show lpArr _ _ _ _ j = lpArr _ _ _ _ (((cfg0.win 4).blk t).view.emb j)
  rw [emb4]

theorem flushed5_eq (c : Dev nD) (t : Fin cfg0.N) :
    (dats m 0 c).flushed 5 t = ((cfg0.win 5).blk t).view.read (Elt Ideal) (lsArr (rowsA m c) (wA m c) (sA m c)) := by
  show (cfg0.win 5).cut (grid0.coords t) ((dats m 0 c).after 5 t) = _
  rw [after0_5]
  funext j
  show lsArr _ _ _ j = lsArr _ _ _ (((cfg0.win 5).blk t).view.emb j)
  rw [emb5]

/-- THE KERNEL'S VALUES: both results at the specification of the argument arrays, the arguments as launched. -/
theorem values (hok : ∀ c, TgOk m c) : θ_run defs (onTc (τ := τ) (main (F := Ideal))) ⟨m, fun _ => 0, ρ⟩ (fun r => ∀ c : Dev nD,
      r.2.mem ((c.tc : Thread nD τ).loc main_v0_0) = lpArr (rowsA m c) (tgA m c) (wA m c) (sA m c)
      ∧ r.2.mem ((c.tc : Thread nD τ).loc main_v0_1) = lsArr (rowsA m c) (wA m c) (sA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h.1 c).1 4).trans ((dats m 0 c).arrAt_eq_of_cover 4 _ (fun t _ => flushed4_eq m c t) covered4),
     ((h.1 c).1 5).trans ((dats m 0 c).arrAt_eq_of_cover 5 _ (fun t _ => flushed5_eq m c t) covered5), h.2 c⟩)
    (θ_run_and ((θ_run defs _ _).mono (fun _ h => h.1) (run_main m ρ hok))
      (frame_of m ρ (dats m) (A_eq m) ((θ_run defs _ _).mono (fun _ h => h.1) (run_main m ρ hok))))

end Cert.Proof.KernelIdeal

end
-- ==== Proof.Ref.lean ====
/-
  The reference's two results, read at one row in the extended reals: the row's logits over the whole vocabulary, their
  log-sum-exp, and the logit at the row's target.
-/
module

public import proofs.«01_k».proof.Proof.Gen.ReferenceIdeal.Value
public import proofs.«01_k».proof.Proof.Spec
public import Idealize.ShloMosaic.Lib.Pointwise

@[expose] public section

set_option maxRecDepth 16384

noncomputable section

open Idealize Idealize.ShloMosaic Cert.ReferenceIdeal Cert.ReferenceIdeal.Gen

namespace Cert.Proof.ReferenceIdeal

/-! ## The row operations, at any number of columns -/

abbrev Row (N : ℕ) : Shape := ⟨2, ![1792, N]⟩

/-- A row's log-sum-exp as the reference writes it. -/
theorem lse_apply {N : ℕ} (x : FVec Ideal (Row N) .f32) (hr : (Row N).Reduces [1] ⟨1, ![1792]⟩) (hc : (⟨1, ![1792]⟩ : Shape).ShapeCasts (Row 1))
    (hb : (Row 1).Broadcasts (Row N)) (r : Fin 1792) (y : ℕ → EReal) (hy : ∀ v : Fin N, x (ix2 r v) = y v.val) :
    addf (shapeCast (Row 1) (multiReduction .maximumf [1] ⟨1, ![1792]⟩ x 0xFF800000#32 hr (.inl rfl) rfl) hc)
      (log (shapeCast (Row 1) (multiReduction .add [1] ⟨1, ![1792]⟩ (exp (subf x (broadcastTo (Row N) (shapeCast (Row 1)
        (multiReduction .maximumf [1] ⟨1, ![1792]⟩ x 0xFF800000#32 hr (.inl rfl) rfl) hc) hb))) 0x00000000#32 hr (.inl rfl) rfl) hc)) (ix2 r 0)
      = Lanes.lse N y := by
  pointwise
  simp only [hy, Spec.neg_inf, Spec.fold_fin N y]
  rw [Spec.sum_fin N fun v => Ideal.exp (y v - (Finset.range N).sup y)]
  rfl

/-- A row's value at its target. -/
theorem pick_apply {N : ℕ} (hN : N ≤ 2 ^ 32) (x : FVec Ideal (Row N) .f32) (t : IVec (Row 1) 32) (hr : (Row N).Reduces [1] ⟨1, ![1792]⟩)
    (hc : (⟨1, ![1792]⟩ : Shape).ShapeCasts (Row 1)) (hb : (Row 1).Broadcasts (Row N)) (hi : (Row N).Iotas .tc 32 [1]) (r : Fin 1792)
    (y : ℕ → EReal) (hy : ∀ v : Fin N, x (ix2 r v) = y v.val) :
    (shapeCast (Row 1) (multiReduction .add [1] ⟨1, ![1792]⟩ (select (cmpi .eq (iota .tc (Row N) 32 [1] hi) (broadcastTo (Row N) t hb)) x
      (broadcast (Row N) (Scalar.ofBits (F := Ideal) .f32 0x00000000#32))) 0x00000000#32 hr (.inl rfl) rfl) hc) (ix2 r 0)
      = ∑ v ∈ Finset.range N, if v = (t (ix2 r 0)).toNat then y v else 0 := by
  pointwise
  simp only [hy]
  rw [← Spec.sum_fin N fun v => if v = (t (ix2 r 0)).toNat then y v else 0]
  exact Finset.sum_congr rfl fun v _ => Spec.select_eq v.val (by have := v.isLt; omega) _ _ _

/-- The last operations on a result, at one row. -/
theorem ls_apply (x : FVec Ideal (Row 1) .f32) (r : Fin 1792) :
    subf x (broadcast (Row 1) (Scalar.ofBits (F := Ideal) .f32 0x413EE641#32)) (ix2 r 0) = x (ix2 r 0) - Spec.logVocab := rfl
theorem lp_apply (z x : FVec Ideal (Row 1) .f32) (r : Fin 1792) :
    addf (subf z x) (broadcast (Row 1) (Scalar.ofBits (F := Ideal) .f32 0x413EE641#32)) (ix2 r 0) = z (ix2 r 0) - x (ix2 r 0) + Spec.logVocab := rfl

/-! ## The reference's values -/

/-- One logit. -/
theorem pay1_apply (s : Vec Ideal S48x151936 .i8) (w : Vec Ideal S1536x151936 .fp8e4m3) (a : Vec Ideal S1792x1536 .bf16)
    (hs : ∀ (b : Fin 48) (v : Fin 151936), 1 ≤ (s (ix2 b v)).toNat ∧ (s (ix2 b v)).toNat ≤ 254) (r : Fin 1792) (v : Fin 151936) :
    k0_pay1 (F := Ideal) s w a (ix2 r v) = Spec.X a w s r v.val := by
  pointwise [k0_pay1]
  unfold Spec.X
  rw [dif_pos v.isLt]
  refine Finset.sum_congr rfl fun k _ => ?_
  rw [← Spec.scl_eq _ (hs _ _).1 (hs _ _).2]

theorem pay2_apply (s : Vec Ideal S48x151936 .i8) (w : Vec Ideal S1536x151936 .fp8e4m3) (a : Vec Ideal S1792x1536 .bf16)
    (hs : ∀ (b : Fin 48) (v : Fin 151936), 1 ≤ (s (ix2 b v)).toNat ∧ (s (ix2 b v)).toNat ≤ 254) (r : Fin 1792) :
    k0_pay2 (F := Ideal) s w a (ix2 r 0) = Lanes.lse Spec.vocab (Spec.X a w s r) :=
  lse_apply (k0_pay1 (F := Ideal) s w a) reduces_S1792x151936_S1792 shapeCasts_S1792_S1792x1 broadcasts_S1792x1_S1792x151936 r
    (Spec.X a w s r) (pay1_apply s w a hs r)

theorem pay3_apply (s : Vec Ideal S48x151936 .i8) (w : Vec Ideal S1536x151936 .fp8e4m3) (a : Vec Ideal S1792x1536 .bf16) (t : Vec Ideal S1792x1 .i32)
    (hs : ∀ (b : Fin 48) (v : Fin 151936), 1 ≤ (s (ix2 b v)).toNat ∧ (s (ix2 b v)).toNat ≤ 254) (r : Fin 1792) :
    k0_pay3 (F := Ideal) s w a t (ix2 r 0) = Spec.lp (Spec.X a w s r) (t (ix2 r 0)).toNat := by
  refine (lp_apply _ (k0_pay2 (F := Ideal) s w a) r).trans ?_
  rw [pay2_apply s w a hs r, pick_apply (by norm_num) (k0_pay1 (F := Ideal) s w a) t reduces_S1792x151936_S1792 shapeCasts_S1792_S1792x1
    broadcasts_S1792x1_S1792x151936 iota_S1792x151936_d1_w32 r (Spec.X a w s r) (pay1_apply s w a hs r)]
  rfl

theorem pay4_apply (s : Vec Ideal S48x151936 .i8) (w : Vec Ideal S1536x151936 .fp8e4m3) (a : Vec Ideal S1792x1536 .bf16)
    (hs : ∀ (b : Fin 48) (v : Fin 151936), 1 ≤ (s (ix2 b v)).toNat ∧ (s (ix2 b v)).toNat ≤ 254) (r : Fin 1792) :
    k0_pay4 (F := Ideal) s w a (ix2 r 0) = Spec.ls (Spec.X a w s r) := by
  refine (ls_apply (k0_pay2 (F := Ideal) s w a) r).trans ?_
  rw [pay2_apply s w a hs r]
  rfl

end Cert.Proof.ReferenceIdeal
-- ==== Proof.Algebraic.lean ====
/-
  The value claim: what the precondition says element by element, and kernel and reference at one specification of the arguments.
-/
module

public import proofs.«01_k».proof.Defs
public import proofs.«01_k».proof.Proof.Gen.Pre_in_domain
public import proofs.«01_k».proof.Proof.Launch
public import proofs.«01_k».proof.Proof.Ref
public import Idealize.ShloMosaic.Lib.ReduceAll

@[expose] public section

set_option maxRecDepth 16384

noncomputable section

namespace Cert.Proof.Algebraic

open Idealize Idealize.ShloMosaic Idealize.ShloMosaic.TcCoe Idealize.SL.Sem

/-! ## The precondition, read -/

/-- Every target is below the vocabulary's size as a signed integer; every scale byte is an exponent of a normal number. -/
theorem domain (a : Vec Ideal Cert.Pre_in_domain.S1792x1536 .bf16) (tg : IVec Cert.Pre_in_domain.S1792x1 32) (w : Vec Ideal Cert.Pre_in_domain.S1536x151936 .fp8e4m3)
    (s : IVec Cert.Pre_in_domain.S48x151936 8) (h : Cert.Pre_in_domain.fn (F := Ideal) a tg w s = fun _ => 1#1) :
    (∀ i, IntOp.cmpi .slt (tg i) 151936#32 = 1#1) ∧ (∀ i, IntOp.cmpi .uge (s i) 1#8 = 1#1) ∧ (∀ i, IntOp.cmpi .ule (s i) 254#8 = 1#1) := by
  have h0 := congrFun h (Shape.Idx.first Cert.Pre_in_domain.Gen.h_S_)
  dsimp only [Cert.Pre_in_domain.fn] at h0
  obtain ⟨h01, h2⟩ := IntOp.andi_eq_one.mp h0
  obtain ⟨h0, h1⟩ := IntOp.andi_eq_one.mp h01
  haveI : Subsingleton Cert.Pre_in_domain.S_.Idx := ⟨fun i j => funext fun k => k.elim0⟩
  exact ⟨fun i => Host.reduce_andi_all _ _ _ _ _ h0 i, fun i => Host.reduce_andi_all _ _ _ _ _ h1 i, fun i => Host.reduce_andi_all _ _ _ _ _ h2 i⟩

/-- A word below the vocabulary's size as a signed integer names one of its columns or is negative. -/
theorem tg_ok (x : BitVec 32) (h : IntOp.cmpi .slt x 151936#32 = 1#1) : x.toNat < Spec.vocab ∨ 2 ^ 31 ≤ x.toNat := by
  rw [IntOp.cmpi_slt] at h
  have e : (151936#32 : BitVec 32).toInt = 151936 := by decide
  rw [e, BitVec.toInt_eq_toNat_cond] at h
  show x.toNat < 151936 ∨ _
  have := x.isLt
  split at h <;> omega

/-! ## The two programs -/

/-- THE VALUE CLAIM. -/
theorem algebraic : Cert.algebraic_KernelIdeal_ReferenceIdeal_pre_in_domain := by
  intro m g m' g' hpre hargs
  have hd := fun c => domain _ _ _ _ (hpre c)
  refine ⟨fun c => KernelIdeal.lpArr (KernelIdeal.rowsA m c) (KernelIdeal.tgA m c) (KernelIdeal.wA m c) (KernelIdeal.sA m c),
    fun c => KernelIdeal.lsArr (KernelIdeal.rowsA m c) (KernelIdeal.wA m c) (KernelIdeal.sA m c),
    KernelIdeal.values m g fun c r => tg_ok _ ((hd c).1 _), ?_⟩
  refine (θ_run _ _ _).mono (fun r h c => ?_) (Cert.ReferenceIdeal.Value.run m' g')
  obtain ⟨h0, h1, hkept⟩ := h c
  obtain ⟨e0, e1, e2, e3⟩ := hargs c
  have hs : ∀ (b : Fin 48) (v : Fin 151936), 1 ≤ (KernelIdeal.sA m c (ix2 b v)).toNat ∧ (KernelIdeal.sA m c (ix2 b v)).toNat ≤ 254 := fun b v =>
    ⟨IntOp.cmpi_uge.mp ((hd c).2.1 (ix2 b v)), IntOp.cmpi_ule.mp ((hd c).2.2 (ix2 b v))⟩
  refine ⟨h0.trans ?_, h1.trans ?_, hkept⟩
  · funext y
    rw [KernelIdeal.col_eta y]
    rw [e0, e1, e2, e3]
    exact ReferenceIdeal.pay3_apply _ _ _ _ hs (y 0)
  · funext y
    rw [KernelIdeal.col_eta y]
    rw [e0, e1, e2, e3]
    exact ReferenceIdeal.pay4_apply _ _ _ hs (y 0)

end Cert.Proof.Algebraic

end
-- ==== Proof.FrameMlp.lean ====
/-
  The frame of `Mlp` (untrusted, hand-written): every execution of the feed-forward call terminates without a fault, its
  argument arrays end unchanged, every semaphore counter ends at zero. The body is run once, at arbitrary contents of all its
  buffers (`sound_any`), both counted loops by their generated invariants; no window's contents are named (the launch theorem
  FORGETS all seventeen), since the frame reads only the input arrays, which the pipeline never writes. Stated at any instance
  of the floats.
-/
module

public import proofs.«01_k».proof.Proof.Gen.Mlp.Frame
public import proofs.«01_k».proof.Proof.Gen.Mlp.Loops
public import Idealize.ShloMosaic.Lib.Claim

@[expose] public section

set_option maxRecDepth 16384
set_option maxHeartbeats 4000000

noncomputable section

namespace Cert.Proof.Mlp

open Cert.Mlp Cert.Mlp.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

/-- The column tile a point adds to, as its offsets compute it. -/
def tileCol (i : grid0.Coords) : ℕ := k0_off4 i 1

instance (i : grid0.Coords) : ClosedOff (k0_off4 i) := ⟨![0, tileCol i], by unfold tileCol k0_off4; rfl⟩
instance (i : grid0.Coords) : ClosedOff (k0_off5 i) := ⟨![256, tileCol i], by unfold tileCol k0_off4 k0_off5; rfl⟩
instance (i : grid0.Coords) : ClosedOff (k0_off6 i) := ⟨![512, tileCol i], by unfold tileCol k0_off4 k0_off6; rfl⟩
instance (i : grid0.Coords) : ClosedOff (k0_off7 i) := ⟨![768, tileCol i], by unfold tileCol k0_off4 k0_off7; rfl⟩
instance (i : grid0.Coords) : ClosedOff (k0_off8 i) := ⟨![1024, tileCol i], by unfold tileCol k0_off4 k0_off8; rfl⟩
instance (i : grid0.Coords) : ClosedOff (k0_off9 i) := ⟨![1280, tileCol i], by unfold tileCol k0_off4 k0_off9; rfl⟩
instance (i : grid0.Coords) : ClosedOff (k0_off10 i) := ⟨![1536, tileCol i], by unfold tileCol k0_off4 k0_off10; rfl⟩

attribute [irreducible] tileCol

/-- The body, on whole buffers at any contents, gives them back at some contents: both guarded regions (the first and the
    last point's) taken or not. -/
theorem sound_any (c : Dev nD) (E : Set ℕ) (i : grid0.Coords) (arg1 : Memref sig .tc .vmem S1792x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S280x1536 .i8) (harg4 : arg4.IsWhole) (arg5 : Memref sig .tc .vmem S1536x256 .fp8e4m3) (harg5 : arg5.IsWhole) (arg6 : Memref sig .tc .vmem S48x256 .i8) (harg6 : arg6.IsWhole) (arg7 : Memref sig .tc .vmem S1536x256 .fp8e4m3) (harg7 : arg7.IsWhole) (arg8 : Memref sig .tc .vmem S48x256 .i8) (harg8 : arg8.IsWhole) (arg9 : Memref sig .tc .vmem S256x1536 .fp8e4m3) (harg9 : arg9.IsWhole) (arg10 : Memref sig .tc .vmem S1792x1536 .fp8e4m3) (harg10 : arg10.IsWhole) (arg11 : Memref sig .tc .vmem S1792x48 .f32) (harg11 : arg11.IsWhole) (arg12 : Memref sig .tc .vmem S1792x256 .fp8e4m3) (harg12 : arg12.IsWhole) (arg13 : Memref sig .tc .vmem S1792x280 .f32) (harg13 : arg13.IsWhole) (arg14 : Memref sig .tc .vmem S1792x1536 .bf16) (harg14 : arg14.IsWhole) (arg15 : Memref sig .tc .vmem S1792x1536 .fp8e4m3) (harg15 : arg15.IsWhole) (arg16 : Memref sig .tc .vmem S1792x48 .f32) (harg16 : arg16.IsWhole) (arg17 : Memref sig .tc .vmem S1792x1536 .bf16) (harg17 : arg17.IsWhole) (arg18 : Memref sig .tc .vmem S1792x1536 .bf16) (harg18 : arg18.IsWhole) (arg19 : Memref sig .tc .vmem S1792x1536 .f32) (harg19 : arg19.IsWhole) (arg20 : Memref sig .tc .vmem S1536x256 .bf16) (harg20 : arg20.IsWhole) (arg21 : Memref sig .tc .vmem S1536x256 .bf16) (harg21 : arg21.IsWhole) (arg22 : Memref sig .tc .vmem S256x1536 .bf16) (harg22 : arg22.IsWhole) (arg23 : Memref sig .tc .vmem S48x256 .i32) (harg23 : arg23.IsWhole) (arg24 : Memref sig .tc .vmem S48x256 .i32) (harg24 : arg24.IsWhole) (arg25 : Memref sig .tc .vmem S280x1536 .i32) (harg25 : arg25.IsWhole) (arg26 : Memref sig .tc .vmem S1792x384 .f32) (harg26 : arg26.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  by_cases h1 : k0_cond1 i = 1#1
  · by_cases h2 : k0_cond2 i = 1#1
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
  · by_cases h2 : k0_cond2 i = 1#1
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl

variable (m : (ℓ : Loc nD τ sig) → Buf (Elt F) ℓ) (ρ : Dev nD → PrngReg)

/-- The proof data of the frame: the arrays as launched, nothing said of what the body leaves (every window is forgotten). -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem datsAny_A (c : Dev nD) (w : Fin cfg0.W) : (datsAny m 0 c).A w = V m c (Pipeline.arrRef spec0 w) := by
  dsimp only [datsAny]

/-- What the body is called with at point `t`, and what it returns. -/
def bodyAny (c : Dev nD) (t : Fin cfg0.N) : sProp 𝕄 :=
  iprop(Pipeline.ΦA spec0 c ∗ (datsAny m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d))

theorem sound_bodyAny (c : Dev nD) (t : Fin cfg0.N) :
    bodyAny m c t ⊢ wp frame (wpE (defs₀ (F := F)) Variants.none c none) Set.univ (bodyAt0 t) (fun _ => bodyAny m c t) := by
  unfold bodyAny bodyAt0 Pipeline.ΦA
  rw [scopedRest0_eq]
  simp only [← owns_whole]
  iintro ⟨⟨⟨Hs0, Hs1, Hs2, Hs3, Hs4, Hs5, Hs6, Hs7, Hs8⟩, Hp⟩, Ho, Ht0, Ht1, Ht2, Ht3, Ht4, Ht5, Ht6, Ht7, Ht8, Ht9, Ht10, Ht11, Ht12, Ht13, Ht14, Ht15, Ht16⟩
  iapply (sound_any c Set.univ (grid0.coords t) _ _ _ _ _ _ _ _ _ _ _ _ _ _ _ _ _ _ _ _ _ _ _ _ _ _ _ _ _ _ _ _ _ _ _ _ _ _ _ _ _ _ _ _ _ _ _ _ _ _ _ _ _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iintro ⟨Ht0, Ht1, Ht2, Ht3, Ht4, Ht5, Ht6, Ht7, Ht8, Ht9, Ht10, Ht11, Ht12, Ht13, Ht14, Ht15, Ht16, Hs0, Hs1, Hs2, Hs3, Hs4, Hs5, Hs6, Hs7, Hs8⟩
  isplitl [Hs0 Hs1 Hs2 Hs3 Hs4 Hs5 Hs6 Hs7 Hs8 Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  iexact Ht16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem obligationAny (c : Dev nD) :
    BodyObligationLoose (datsAny (F := F) m 0 c) (defs₀ (F := F)) Variants.none () Set.univ (fun _ => true) := fun t => by
  rw [bigSep_W0, defs₀_row]
  exact triple_restated (sound_bodyAny m c t) rfl .rfl fun _ => .rfl

set_option backward.isDefEq.respectTransparency.types false in
/-- The launch, every window forgotten. -/
theorem runAny : θ_run defs (onTc (τ := τ) (main (F := F))) (s₀ m ρ)
    (fun r => (Pipeline.RDat.FramePost (cfgs 0) (fun c => (datsAny m 0 c).toRForget fun _ => true) (V m)) r ∧ r.2.sem = fun _ => 0) :=
  Pipeline.θ_run_frame_forget (Q' := _) cfgs (datsAny m) (0 : Fin 1) launch0 defs₀ Variants.none (fun _ => true) m ρ main
    (hbody := fun c => obligationAny m c) (hshare := fun c => (datsAny m 0 c).share_full fun _ => rfl)
    (howed := fun _ _ => rfl) (V := V m) (hmain := hmain m Variants.none) (hA := datsAny_A m) (hΦ := fun _ _ => rfl)

/-- THE FRAME, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
      ⟨(Pipeline.RDat.FramePost.arr_in h.1 c 0 rfl).trans (datsAny_A m c 0),
       (Pipeline.RDat.FramePost.arr_in h.1 c 1 rfl).trans (datsAny_A m c 1),
       (Pipeline.RDat.FramePost.arr_in h.1 c 2 rfl).trans (datsAny_A m c 2),
       (Pipeline.RDat.FramePost.arr_in h.1 c 4 rfl).trans (datsAny_A m c 4),
       (Pipeline.RDat.FramePost.arr_in h.1 c 5 rfl).trans (datsAny_A m c 5),
       (Pipeline.RDat.FramePost.arr_in h.1 c 6 rfl).trans (datsAny_A m c 6),
       (Pipeline.RDat.FramePost.arr_in h.1 c 7 rfl).trans (datsAny_A m c 7),
       (Pipeline.RDat.FramePost.arr_in h.1 c 8 rfl).trans (datsAny_A m c 8),
       (Pipeline.RDat.FramePost.arr_in h.1 c 3 rfl).trans (datsAny_A m c 3)⟩, h.2⟩) (runAny m ρ)

end Cert.Proof.Mlp

end
-- ==== Proof.FrameMlpIdeal.lean ====
/-
  The frame of `MlpIdeal` (untrusted, hand-written): every execution of the feed-forward call terminates without a fault, its
  argument arrays end unchanged, every semaphore counter ends at zero. The body is run once, at arbitrary contents of all its
  buffers (`sound_any`), both counted loops by their generated invariants; no window's contents are named (the launch theorem
  FORGETS all seventeen), since the frame reads only the input arrays, which the pipeline never writes. Stated at any instance
  of the floats with the named constants.
-/
module

public import proofs.«01_k».proof.Proof.Gen.MlpIdeal.Frame
public import proofs.«01_k».proof.Proof.Gen.MlpIdeal.Loops
public import Idealize.ShloMosaic.Lib.Claim

@[expose] public section

set_option maxRecDepth 16384
set_option maxHeartbeats 4000000

noncomputable section

namespace Cert.Proof.MlpIdeal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [Named F]

local notation "𝕄" => MT nD τ sig Unit (Elt F) ℕ (UR sig nD τ) ℕ

/-- The column tile a point adds to, as its offsets compute it. -/
def tileCol (i : grid0.Coords) : ℕ := k0_off4 i 1

instance (i : grid0.Coords) : ClosedOff (k0_off4 i) := ⟨![0, tileCol i], by unfold tileCol k0_off4; rfl⟩
instance (i : grid0.Coords) : ClosedOff (k0_off5 i) := ⟨![256, tileCol i], by unfold tileCol k0_off4 k0_off5; rfl⟩
instance (i : grid0.Coords) : ClosedOff (k0_off6 i) := ⟨![512, tileCol i], by unfold tileCol k0_off4 k0_off6; rfl⟩
instance (i : grid0.Coords) : ClosedOff (k0_off7 i) := ⟨![768, tileCol i], by unfold tileCol k0_off4 k0_off7; rfl⟩
instance (i : grid0.Coords) : ClosedOff (k0_off8 i) := ⟨![1024, tileCol i], by unfold tileCol k0_off4 k0_off8; rfl⟩
instance (i : grid0.Coords) : ClosedOff (k0_off9 i) := ⟨![1280, tileCol i], by unfold tileCol k0_off4 k0_off9; rfl⟩
instance (i : grid0.Coords) : ClosedOff (k0_off10 i) := ⟨![1536, tileCol i], by unfold tileCol k0_off4 k0_off10; rfl⟩

attribute [irreducible] tileCol

/-- The body, on whole buffers at any contents, gives them back at some contents: both guarded regions (the first and the
    last point's) taken or not. -/
theorem sound_any (c : Dev nD) (E : Set ℕ) (i : grid0.Coords) (arg1 : Memref sig .tc .vmem S1792x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S280x1536 .i8) (harg4 : arg4.IsWhole) (arg5 : Memref sig .tc .vmem S1536x256 .fp8e4m3) (harg5 : arg5.IsWhole) (arg6 : Memref sig .tc .vmem S48x256 .i8) (harg6 : arg6.IsWhole) (arg7 : Memref sig .tc .vmem S1536x256 .fp8e4m3) (harg7 : arg7.IsWhole) (arg8 : Memref sig .tc .vmem S48x256 .i8) (harg8 : arg8.IsWhole) (arg9 : Memref sig .tc .vmem S256x1536 .fp8e4m3) (harg9 : arg9.IsWhole) (arg10 : Memref sig .tc .vmem S1792x1536 .fp8e4m3) (harg10 : arg10.IsWhole) (arg11 : Memref sig .tc .vmem S1792x48 .f32) (harg11 : arg11.IsWhole) (arg12 : Memref sig .tc .vmem S1792x256 .fp8e4m3) (harg12 : arg12.IsWhole) (arg13 : Memref sig .tc .vmem S1792x280 .f32) (harg13 : arg13.IsWhole) (arg14 : Memref sig .tc .vmem S1792x1536 .bf16) (harg14 : arg14.IsWhole) (arg15 : Memref sig .tc .vmem S1792x1536 .fp8e4m3) (harg15 : arg15.IsWhole) (arg16 : Memref sig .tc .vmem S1792x48 .f32) (harg16 : arg16.IsWhole) (arg17 : Memref sig .tc .vmem S1792x1536 .bf16) (harg17 : arg17.IsWhole) (arg18 : Memref sig .tc .vmem S1792x1536 .bf16) (harg18 : arg18.IsWhole) (arg19 : Memref sig .tc .vmem S1792x1536 .f32) (harg19 : arg19.IsWhole) (arg20 : Memref sig .tc .vmem S1536x256 .bf16) (harg20 : arg20.IsWhole) (arg21 : Memref sig .tc .vmem S1536x256 .bf16) (harg21 : arg21.IsWhole) (arg22 : Memref sig .tc .vmem S256x1536 .bf16) (harg22 : arg22.IsWhole) (arg23 : Memref sig .tc .vmem S48x256 .i32) (harg23 : arg23.IsWhole) (arg24 : Memref sig .tc .vmem S48x256 .i32) (harg24 : arg24.IsWhole) (arg25 : Memref sig .tc .vmem S280x1536 .i32) (harg25 : arg25.IsWhole) (arg26 : Memref sig .tc .vmem S1792x384 .f32) (harg26 : arg26.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  by_cases h1 : k0_cond1 i = 1#1
  · by_cases h2 : k0_cond2 i = 1#1
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
  · by_cases h2 : k0_cond2 i = 1#1
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl
    · sl_exec_parts!
      sl_step
      iapply Hk
      isplitl [H1]
      · iexists _, _; isplitr
        swap
        · iexact H1
        · ipureintro; rfl
      isplitl [H2]
      · iexists _, _; isplitr
        swap
        · iexact H2
        · ipureintro; rfl
      isplitl [H3]
      · iexists _, _; isplitr
        swap
        · iexact H3
        · ipureintro; rfl
      isplitl [H4]
      · iexists _, _; isplitr
        swap
        · iexact H4
        · ipureintro; rfl
      isplitl [H5]
      · iexists _, _; isplitr
        swap
        · iexact H5
        · ipureintro; rfl
      isplitl [H6]
      · iexists _, _; isplitr
        swap
        · iexact H6
        · ipureintro; rfl
      isplitl [H7]
      · iexists _, _; isplitr
        swap
        · iexact H7
        · ipureintro; rfl
      isplitl [H8]
      · iexists _, _; isplitr
        swap
        · iexact H8
        · ipureintro; rfl
      isplitl [H9]
      · iexists _, _; isplitr
        swap
        · iexact H9
        · ipureintro; rfl
      isplitl [H10]
      · iexists _, _; isplitr
        swap
        · iexact H10
        · ipureintro; rfl
      isplitl [H11]
      · iexists _, _; isplitr
        swap
        · iexact H11
        · ipureintro; rfl
      isplitl [H12]
      · iexists _, _; isplitr
        swap
        · iexact H12
        · ipureintro; rfl
      isplitl [H13]
      · iexists _, _; isplitr
        swap
        · iexact H13
        · ipureintro; rfl
      isplitl [H14]
      · iexists _, _; isplitr
        swap
        · iexact H14
        · ipureintro; rfl
      isplitl [H15]
      · iexists _, _; isplitr
        swap
        · iexact H15
        · ipureintro; rfl
      isplitl [H16]
      · iexists _, _; isplitr
        swap
        · iexact H16
        · ipureintro; rfl
      isplitl [H17]
      · iexists _, _; isplitr
        swap
        · iexact H17
        · ipureintro; rfl
      isplitl [H18]
      · iexists _, _; isplitr
        swap
        · iexact H18
        · ipureintro; rfl
      isplitl [H19]
      · iexists _, _; isplitr
        swap
        · iexact H19
        · ipureintro; rfl
      isplitl [H20]
      · iexists _, _; isplitr
        swap
        · iexact H20
        · ipureintro; rfl
      isplitl [H21]
      · iexists _, _; isplitr
        swap
        · iexact H21
        · ipureintro; rfl
      isplitl [H22]
      · iexists _, _; isplitr
        swap
        · iexact H22
        · ipureintro; rfl
      isplitl [H23]
      · iexists _, _; isplitr
        swap
        · iexact H23
        · ipureintro; rfl
      isplitl [H24]
      · iexists _, _; isplitr
        swap
        · iexact H24
        · ipureintro; rfl
      isplitl [H25]
      · iexists _, _; isplitr
        swap
        · iexact H25
        · ipureintro; rfl
      iexists _, _; isplitr
      swap
      · iexact H26
      · ipureintro; rfl

variable (m : (ℓ : Loc nD τ sig) → Buf (Elt F) ℓ) (ρ : Dev nD → PrngReg)

/-- The proof data of the frame: the arrays as launched, nothing said of what the body leaves (every window is forgotten). -/
def datsAny (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem datsAny_A (c : Dev nD) (w : Fin cfg0.W) : (datsAny m 0 c).A w = V m c (Pipeline.arrRef spec0 w) := by
  dsimp only [datsAny]

/-- What the body is called with at point `t`, and what it returns. -/
def bodyAny (c : Dev nD) (t : Fin cfg0.N) : sProp 𝕄 :=
  iprop(Pipeline.ΦA spec0 c ∗ (datsAny m 0 c).owesAt () t.castSucc
    ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d) ∗ (∃ d, owns (c : Thread nD τ) (st0_8 t) fullShare d) ∗ (∃ d, owns (c : Thread nD τ) (st0_9 t) fullShare d) ∗ (∃ d, owns (c : Thread nD τ) (st0_10 t) fullShare d) ∗ (∃ d, owns (c : Thread nD τ) (st0_11 t) fullShare d) ∗ (∃ d, owns (c : Thread nD τ) (st0_12 t) fullShare d) ∗ (∃ d, owns (c : Thread nD τ) (st0_13 t) fullShare d) ∗ (∃ d, owns (c : Thread nD τ) (st0_14 t) fullShare d) ∗ (∃ d, owns (c : Thread nD τ) (st0_15 t) fullShare d) ∗ (∃ d, owns (c : Thread nD τ) (st0_16 t) fullShare d))

theorem sound_bodyAny (c : Dev nD) (t : Fin cfg0.N) :
    bodyAny m c t ⊢ wp frame (wpE (defs₀ (F := F)) Variants.none c none) Set.univ (bodyAt0 t) (fun _ => bodyAny m c t) := by
  unfold bodyAny bodyAt0 Pipeline.ΦA
  rw [scopedRest0_eq]
  simp only [← owns_whole]
  iintro ⟨⟨⟨Hs0, Hs1, Hs2, Hs3, Hs4, Hs5, Hs6, Hs7, Hs8⟩, Hp⟩, Ho, Ht0, Ht1, Ht2, Ht3, Ht4, Ht5, Ht6, Ht7, Ht8, Ht9, Ht10, Ht11, Ht12, Ht13, Ht14, Ht15, Ht16⟩
  iapply (sound_any c Set.univ (grid0.coords t) _ _ _ _ _ _ _ _ _ _ _ _ _ _ _ _ _ _ _ _ _ _ _ _ _ _ _ _ _ _ _ _ _ _ _ _ _ _ _ _ _ _ _ _ _ _ _ _ _ _ _ _ _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iintro ⟨Ht0, Ht1, Ht2, Ht3, Ht4, Ht5, Ht6, Ht7, Ht8, Ht9, Ht10, Ht11, Ht12, Ht13, Ht14, Ht15, Ht16, Hs0, Hs1, Hs2, Hs3, Hs4, Hs5, Hs6, Hs7, Hs8⟩
  isplitl [Hs0 Hs1 Hs2 Hs3 Hs4 Hs5 Hs6 Hs7 Hs8 Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  iexact Ht16

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem obligationAny (c : Dev nD) :
    BodyObligationLoose (datsAny (F := F) m 0 c) (defs₀ (F := F)) Variants.none () Set.univ (fun _ => true) := fun t => by
  rw [bigSep_W0, defs₀_row]
  exact triple_restated (sound_bodyAny m c t) rfl .rfl fun _ => .rfl

set_option backward.isDefEq.respectTransparency.types false in
/-- The launch, every window forgotten. -/
theorem runAny : θ_run defs (onTc (τ := τ) (main (F := F))) (s₀ m ρ)
    (fun r => (Pipeline.RDat.FramePost (cfgs 0) (fun c => (datsAny m 0 c).toRForget fun _ => true) (V m)) r ∧ r.2.sem = fun _ => 0) :=
  Pipeline.θ_run_frame_forget (Q' := _) cfgs (datsAny m) (0 : Fin 1) launch0 defs₀ Variants.none (fun _ => true) m ρ main
    (hbody := fun c => obligationAny m c) (hshare := fun c => (datsAny m 0 c).share_full fun _ => rfl)
    (howed := fun _ _ => rfl) (V := V m) (hmain := hmain m Variants.none) (hA := datsAny_A m) (hΦ := fun _ _ => rfl)

/-- THE FRAME, at any instance of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
      ⟨(Pipeline.RDat.FramePost.arr_in h.1 c 0 rfl).trans (datsAny_A m c 0),
       (Pipeline.RDat.FramePost.arr_in h.1 c 1 rfl).trans (datsAny_A m c 1),
       (Pipeline.RDat.FramePost.arr_in h.1 c 2 rfl).trans (datsAny_A m c 2),
       (Pipeline.RDat.FramePost.arr_in h.1 c 4 rfl).trans (datsAny_A m c 4),
       (Pipeline.RDat.FramePost.arr_in h.1 c 5 rfl).trans (datsAny_A m c 5),
       (Pipeline.RDat.FramePost.arr_in h.1 c 6 rfl).trans (datsAny_A m c 6),
       (Pipeline.RDat.FramePost.arr_in h.1 c 7 rfl).trans (datsAny_A m c 7),
       (Pipeline.RDat.FramePost.arr_in h.1 c 8 rfl).trans (datsAny_A m c 8),
       (Pipeline.RDat.FramePost.arr_in h.1 c 3 rfl).trans (datsAny_A m c 3)⟩, h.2⟩) (runAny m ρ)

end Cert.Proof.MlpIdeal

end
-- ==== Proof.Chunk.lean ====
/-
  One trip of the first point's loop as a function of the 32 rows it loads: each chunk of 128 lanes is four blocks of 32; a block's
  scale comes from the ladder and the exchanges, its codes from the scale's inverse. The generated trip stores exactly these.
-/
module

public import proofs.«01_k».proof.Proof.Gen.MlpIdeal.Frame
public import proofs.«01_k».proof.Proof.Gen.MlpIdeal.Loops

@[expose] public section

set_option maxRecDepth 65536
set_option maxHeartbeats 4000000

noncomputable section

namespace Cert.Proof.MlpIdeal

open Cert.MlpIdeal Cert.MlpIdeal.Gen
open Idealize.ShloMosaic Idealize.ShloMosaic.TcCoe Idealize.ShloMosaic.Tactic
open Facts

variable {F : FTy → Type} [FloatOps F] [Named F]

/-! ## A chunk -/

def kF (b : BitVec 32) : FVec F S32x128 .f32 := broadcast S32x128 (Scalar.ofBits .f32 b)
def kB (b : BitVec 16) : FVec F S32x128 .bf16 := broadcast S32x128 (Scalar.ofBits .bf16 b)

/-- The magnitudes, scaled. -/
def magV (x : FVec F S32x128 .f32) : FVec F S32x128 .f32 := absf (mulf x (kF 0x3B124925#32))

/-- One rung of the ladder. -/
def rungV (t p : FVec F S32x128 .f32) (b : BitVec 32) : FVec F S32x128 .f32 :=
  select (cmpf .olt t (mulf p (kF b))) p (mulf p (kF b))

def ladV (t : FVec F S32x128 .f32) : FVec F S32x128 .f32 :=
  select (cmpf .olt t (kF 0x00800000#32)) (kF 0x00000000#32)
    (rungV t (rungV t (rungV t (rungV t (rungV t (rungV t (rungV t (rungV t (rungV t (kF 0x00800000#32)
      0x5F800000#32) 0x5F800000#32) 0x5F800000#32) 0x4F800000#32) 0x47800000#32) 0x43800000#32) 0x41800000#32) 0x40800000#32) 0x40000000#32)

/-- The lane a gather reads: an index, negative ones counted from the end. -/
def wrapV (l : IVec S32x128 32) : IVec S32x128 32 :=
  shapeCast S32x128 (shapeCast S32x128x1
    (select (cmpi .slt l (broadcast S32x128 0#32)) (addi l (broadcast S32x128 128#32)) l) shapeCasts_S32x128_S32x128x1) shapeCasts_S32x128x1_S32x128

def lanes : IVec S32x128 32 := iota .tc S32x128 32 [1] iota_S32x128_d1_w32

/-- One exchange at distance `s`. -/
def swapV (m : FVec F S32x128 .bf16) (f : FVec F S32x128 .f32) (s : BitVec 32) : FVec F S32x128 .bf16 :=
  maximumf m (truncf .bf16 (dynamicGather 1 f (wrapV (xori lanes (broadcast S32x128 s)))) bitsLt_bf16_f32)

def exV (m : FVec F S32x128 .bf16) (s : BitVec 32) : FVec F S32x128 .bf16 := swapV m (extf .f32 m bitsLt_bf16_f32) s

/-- The block's power of two, in each of its lanes. -/
def powV (p : FVec F S32x128 .f32) : FVec F S32x128 .bf16 :=
  exV (exV (exV (exV (swapV (truncf .bf16 p bitsLt_bf16_f32) p 16#32) 8#32) 4#32) 2#32) 1#32

def noZero (m : FVec F S32x128 .bf16) : FVec F S32x128 .bf16 := select (cmpf .oeq m (kB 0x0000#16)) (kB 0x3F00#16) m
def noInf (m : FVec F S32x128 .bf16) : FVec F S32x128 .bf16 := select (cmpf .oeq m (kB 0x7F80#16)) (kB 0x3F00#16) m

def fixV (x : FVec F S32x128 .f32) : FVec F S32x128 .bf16 := noInf (noZero (powV (ladV (magV x))))

def scaleV (x : FVec F S32x128 .f32) : FVec F S32x128 .bf16 := mulf (fixV x) (kB 0x4000#16)

def codeV (x : FVec F S32x128 .f32) : FVec F S32x128 .fp8e4m3 :=
  truncf .fp8e4m3 (minimumf (kF 0x43E00000#32) (maximumf (kF 0xC3E00000#32)
    (mulf x (extf .f32 (divf (kB 0x3F00#16) (fixV x)) bitsLt_bf16_f32)))) bitsLt_fp8e4m3_f32

/-! ## A trip -/

/-- The twelve chunks. -/
def sl0 (r : FVec F S32x1536 .f32) : FVec F S32x128 .f32 := extractStridedSlice S32x128 ![0, 0] r slices_S32x1536_o0_0_S32x128
def sl1 (r : FVec F S32x1536 .f32) : FVec F S32x128 .f32 := extractStridedSlice S32x128 ![0, 128] r slices_S32x1536_o0_128_S32x128
def sl2 (r : FVec F S32x1536 .f32) : FVec F S32x128 .f32 := extractStridedSlice S32x128 ![0, 256] r slices_S32x1536_o0_256_S32x128
def sl3 (r : FVec F S32x1536 .f32) : FVec F S32x128 .f32 := extractStridedSlice S32x128 ![0, 384] r slices_S32x1536_o0_384_S32x128
def sl4 (r : FVec F S32x1536 .f32) : FVec F S32x128 .f32 := extractStridedSlice S32x128 ![0, 512] r slices_S32x1536_o0_512_S32x128
def sl5 (r : FVec F S32x1536 .f32) : FVec F S32x128 .f32 := extractStridedSlice S32x128 ![0, 640] r slices_S32x1536_o0_640_S32x128
def sl6 (r : FVec F S32x1536 .f32) : FVec F S32x128 .f32 := extractStridedSlice S32x128 ![0, 768] r slices_S32x1536_o0_768_S32x128
def sl7 (r : FVec F S32x1536 .f32) : FVec F S32x128 .f32 := extractStridedSlice S32x128 ![0, 896] r slices_S32x1536_o0_896_S32x128
def sl8 (r : FVec F S32x1536 .f32) : FVec F S32x128 .f32 := extractStridedSlice S32x128 ![0, 1024] r slices_S32x1536_o0_1024_S32x128
def sl9 (r : FVec F S32x1536 .f32) : FVec F S32x128 .f32 := extractStridedSlice S32x128 ![0, 1152] r slices_S32x1536_o0_1152_S32x128
def sl10 (r : FVec F S32x1536 .f32) : FVec F S32x128 .f32 := extractStridedSlice S32x128 ![0, 1280] r slices_S32x1536_o0_1280_S32x128
def sl11 (r : FVec F S32x1536 .f32) : FVec F S32x128 .f32 := extractStridedSlice S32x128 ![0, 1408] r slices_S32x1536_o0_1408_S32x128

/-- The 32 rows' codes. -/
def codesV (r : FVec F S32x1536 .f32) : FVec F S32x1536 .fp8e4m3 :=
  concatenate S32x1536 1 [⟨S32x128, codeV (sl0 r)⟩, ⟨S32x128, codeV (sl1 r)⟩, ⟨S32x128, codeV (sl2 r)⟩, ⟨S32x128, codeV (sl3 r)⟩, ⟨S32x128, codeV (sl4 r)⟩, ⟨S32x128, codeV (sl5 r)⟩, ⟨S32x128, codeV (sl6 r)⟩, ⟨S32x128, codeV (sl7 r)⟩, ⟨S32x128, codeV (sl8 r)⟩, ⟨S32x128, codeV (sl9 r)⟩, ⟨S32x128, codeV (sl10 r)⟩, ⟨S32x128, codeV (sl11 r)⟩] concatenates_S32x128_S32x128_S32x128_S32x128_S32x128_S32x128_S32x128_S32x128_S32x128_S32x128_S32x128_S32x128_S32x1536_d1

/-- One chunk's scales gathered: lane `b` takes the first lane of block `b mod 4`. -/
def pickV (x : FVec F S32x128 .f32) : FVec F S32x128 .f32 :=
  dynamicGather 1 (extf .f32 (scaleV x) bitsLt_bf16_f32) (wrapV (muli (andi lanes (broadcast S32x128 3#32)) (broadcast S32x128 32#32)))

/-- Whether a lane's block belongs to chunk `c`. -/
def inV (c : BitVec 32) : IVec S32x128 1 := cmpi .eq (shrsi lanes (broadcast S32x128 2#32)) (broadcast S32x128 c)

/-- The 32 rows' scales. -/
def scalesV (r : FVec F S32x1536 .f32) : FVec F S32x48 .f32 :=
  extractStridedSlice S32x48 ![0, 0]
    (select (inV 11#32) (pickV (sl11 r)) (select (inV 10#32) (pickV (sl10 r)) (select (inV 9#32) (pickV (sl9 r)) (select (inV 8#32) (pickV (sl8 r)) (select (inV 7#32) (pickV (sl7 r)) (select (inV 6#32) (pickV (sl6 r)) (select (inV 5#32) (pickV (sl5 r)) (select (inV 4#32) (pickV (sl4 r)) (select (inV 3#32) (pickV (sl3 r)) (select (inV 2#32) (pickV (sl2 r)) (select (inV 1#32) (pickV (sl1 r)) (pickV (sl0 r))))))))))))) slices_S32x128_o0_0_S32x48

/-- The trip's rows, normalised, from the arrays it loads. -/
abbrev rowsOf (i : grid0.Coords) (arg1 : Memref sig .tc .vmem S1792x1536 .bf16) (arg2 : Memref sig .tc .vmem S1x1536 .f32) (k0_h1 : k0_cond1 i = 1#1)
    (X_arg1 : BufTy.Contents (Elt F) arg1.view.ty) (X_arg2 : BufTy.Contents (Elt F) arg2.view.ty) (k : Fin k0_t1_loop.trips) : FVec F S32x1536 .f32 :=
  k0_pay3 (arg1.view.readAt (Elt F) (Rect.unit (s := S1792x1536) (k0_off1 k) S32x1536.size (k0_off1_inb i k k0_h1)).toLoadRect X_arg1)
    (arg2.view.readAt (Elt F) (Rect.unit (s := S1x1536) ![0, 0] S1x1536.size inb_S1x1536_S1x1536_0_0).toLoadRect X_arg2)

variable (i : grid0.Coords) (arg1 : Memref sig .tc .vmem S1792x1536 .bf16) (arg2 : Memref sig .tc .vmem S1x1536 .f32) (k0_h1 : k0_cond1 i = 1#1)
  (X_arg1 : BufTy.Contents (Elt F) arg1.view.ty) (X_arg2 : BufTy.Contents (Elt F) arg2.view.ty) (k : Fin k0_t1_loop.trips)

/-- What the trip stores into the codes. -/
theorem codes_eq : trip_k0_t1.sl.v5010 i arg1 arg2 k0_h1 X_arg1 X_arg2 k = codesV (rowsOf i arg1 arg2 k0_h1 X_arg1 X_arg2 k) := rfl

/-- What the trip stores into the scales. -/
theorem scales_eq : trip_k0_t1.sl.v5186 i arg1 arg2 k0_h1 X_arg1 X_arg2 k = scalesV (rowsOf i arg1 arg2 k0_h1 X_arg1 X_arg2 k) := rfl

end Cert.Proof.MlpIdeal
-- ==== Proof.Quant.lean ====
/-
  The block quantisation, as arithmetic of the extended reals: a power of two found by a ladder of comparisons, the largest of a
  block of 32 found by five exchanges, and the scale 2^(⌊log₂ t⌋ + 1) the reference writes with a logarithm.
-/
module

public import Idealize.ShloMosaic.Lib.Pointwise
public import Idealize.ShloMosaic.PureOps.Ideal

@[expose] public section

set_option maxRecDepth 16384

noncomputable section

open Idealize Idealize.ShloMosaic

namespace Cert.Proof.Quant

/-! ## The ladder -/

/-- One rung: multiply, unless that passes the value. -/
def rung (t p c : EReal) : EReal := if t < p * c then p else p * c

/-- The largest power of two at or below a value that is a normal number, 0 below them, as the ladder finds it. -/
def ladder (t : EReal) : EReal :=
  if t < ((2 : ℝ) ^ (-126 : ℤ) : ℝ) then 0 else
  rung t (rung t (rung t (rung t (rung t (rung t (rung t (rung t (rung t ((2 : ℝ) ^ (-126 : ℤ) : ℝ)
    ((2 : ℝ) ^ (64 : ℤ) : ℝ)) ((2 : ℝ) ^ (64 : ℤ) : ℝ)) ((2 : ℝ) ^ (64 : ℤ) : ℝ)) ((2 : ℝ) ^ (32 : ℤ) : ℝ)) ((2 : ℝ) ^ (16 : ℤ) : ℝ))
    ((2 : ℝ) ^ (8 : ℤ) : ℝ)) ((2 : ℝ) ^ (4 : ℤ) : ℝ)) ((2 : ℝ) ^ (2 : ℤ) : ℝ)) ((2 : ℝ) ^ (1 : ℤ) : ℝ)

theorem rung_spec (a : ℝ) (k s w v : ℤ) (h1 : (2 : ℝ) ^ k ≤ a) (h2 : a < (2 : ℝ) ^ (k + w)) (hs : s ≤ v) (hv : w ≤ s + v) :
    ∃ k' : ℤ, rung (a : EReal) (((2 : ℝ) ^ k : ℝ) : EReal) (((2 : ℝ) ^ s : ℝ) : EReal) = (((2 : ℝ) ^ k' : ℝ) : EReal)
      ∧ (2 : ℝ) ^ k' ≤ a ∧ a < (2 : ℝ) ^ (k' + v) := by
  have e : (((2 : ℝ) ^ k : ℝ) : EReal) * (((2 : ℝ) ^ s : ℝ) : EReal) = (((2 : ℝ) ^ (k + s) : ℝ) : EReal) := by
    rw [← EReal.coe_mul, zpow_add₀ (by norm_num)]
  unfold rung
  rw [e]
  by_cases h : a < (2 : ℝ) ^ (k + s)
  · rw [if_pos (EReal.coe_lt_coe_iff.mpr h)]
    exact ⟨k, rfl, h1, lt_of_lt_of_le h (zpow_le_zpow_right₀ (by norm_num) (by omega))⟩
  · rw [if_neg (fun h' => h (EReal.coe_lt_coe_iff.mp h'))]
    exact ⟨k + s, rfl, not_lt.mp h, lt_of_lt_of_le h2 (zpow_le_zpow_right₀ (by norm_num) (by omega))⟩

theorem ladder_spec (a : ℝ) (h1 : (2 : ℝ) ^ (-126 : ℤ) ≤ a) (h2 : a < (2 : ℝ) ^ (130 : ℤ)) :
    ∃ k : ℤ, ladder (a : EReal) = (((2 : ℝ) ^ k : ℝ) : EReal) ∧ (2 : ℝ) ^ k ≤ a ∧ a < (2 : ℝ) ^ (k + 1) := by
  unfold ladder
  rw [if_neg (fun h' => absurd (EReal.coe_lt_coe_iff.mp h') (not_lt.mpr h1))]
  obtain ⟨k1, e1, a1, b1⟩ := rung_spec a (-126) 64 256 192 h1 (by norm_num at h2 ⊢; exact h2) (by norm_num) (by norm_num)
  rw [e1]
  obtain ⟨k2, e2, a2, b2⟩ := rung_spec a k1 64 192 128 a1 b1 (by norm_num) (by norm_num)
  rw [e2]
  obtain ⟨k3, e3, a3, b3⟩ := rung_spec a k2 64 128 64 a2 b2 (by norm_num) (by norm_num)
  rw [e3]
  obtain ⟨k4, e4, a4, b4⟩ := rung_spec a k3 32 64 32 a3 b3 (by norm_num) (by norm_num)
  rw [e4]
  obtain ⟨k5, e5, a5, b5⟩ := rung_spec a k4 16 32 16 a4 b4 (by norm_num) (by norm_num)
  rw [e5]
  obtain ⟨k6, e6, a6, b6⟩ := rung_spec a k5 8 16 8 a5 b5 (by norm_num) (by norm_num)
  rw [e6]
  obtain ⟨k7, e7, a7, b7⟩ := rung_spec a k6 4 8 4 a6 b6 (by norm_num) (by norm_num)
  rw [e7]
  obtain ⟨k8, e8, a8, b8⟩ := rung_spec a k7 2 4 2 a7 b7 (by norm_num) (by norm_num)
  rw [e8]
  exact rung_spec a k8 1 2 1 a8 b8 (by norm_num) (by norm_num)

theorem ladder_small (t : EReal) (h : t < ((2 : ℝ) ^ (-126 : ℤ) : ℝ)) : ladder t = 0 := by
  unfold ladder
  rw [if_pos h]

/-- A value that is not small and not large is real. -/
theorem real_of (t : EReal) (h1 : ¬ t < ((2 : ℝ) ^ (-126 : ℤ) : ℝ)) (h2 : t < ((2 : ℝ) ^ (130 : ℤ) : ℝ)) :
    ∃ a : ℝ, t = (a : EReal) ∧ (2 : ℝ) ^ (-126 : ℤ) ≤ a ∧ a < (2 : ℝ) ^ (130 : ℤ) := by
  induction t with
  | bot => exact absurd (EReal.bot_lt_coe _) h1
  | top => exact absurd h2 (not_lt.mpr le_top)
  | coe a => exact ⟨a, rfl, not_lt.mp fun h => h1 (EReal.coe_lt_coe_iff.mpr h), EReal.coe_lt_coe_iff.mp h2⟩

theorem ladder_nonneg (t : EReal) (h2 : t < ((2 : ℝ) ^ (130 : ℤ) : ℝ)) : 0 ≤ ladder t := by
  by_cases h1 : t < ((2 : ℝ) ^ (-126 : ℤ) : ℝ)
  · rw [ladder_small t h1]
  · obtain ⟨a, rfl, ha, hb⟩ := real_of t h1 h2
    obtain ⟨k, e, _, _⟩ := ladder_spec a ha hb
    rw [e]
    exact EReal.coe_nonneg.mpr (by positivity)

theorem ladder_mono (t u : EReal) (htu : t ≤ u) (hu : u < ((2 : ℝ) ^ (130 : ℤ) : ℝ)) : ladder t ≤ ladder u := by
  by_cases h1 : t < ((2 : ℝ) ^ (-126 : ℤ) : ℝ)
  · rw [ladder_small t h1]
    exact ladder_nonneg u hu
  · have h3 : ¬ u < ((2 : ℝ) ^ (-126 : ℤ) : ℝ) := fun h => h1 (lt_of_le_of_lt htu h)
    obtain ⟨a, rfl, ha, hb⟩ := real_of t h1 (lt_of_le_of_lt htu hu)
    obtain ⟨b, rfl, hc, hd⟩ := real_of u h3 hu
    obtain ⟨k, e, p, q⟩ := ladder_spec a ha hb
    obtain ⟨l, e', p', q'⟩ := ladder_spec b hc hd
    rw [e, e']
    have hab := EReal.coe_le_coe_iff.mp htu
    have hkl : (2 : ℝ) ^ k < (2 : ℝ) ^ (l + 1) := lt_of_le_of_lt (p.trans hab) q'
    have : k < l + 1 := (zpow_lt_zpow_iff_right₀ (by norm_num)).mp hkl
    exact EReal.coe_le_coe_iff.mpr (zpow_le_zpow_right₀ (by norm_num) (by omega))

/-- The largest of the powers is the power of the largest. -/
theorem sup_ladder (t : Fin 32 → EReal) (h : ∀ i, t i < ((2 : ℝ) ^ (130 : ℤ) : ℝ)) :
    Finset.univ.sup (fun i => ladder (t i)) = ladder (Finset.univ.sup t) := by
  obtain ⟨j, -, hj⟩ := Finset.exists_mem_eq_sup Finset.univ ⟨0, Finset.mem_univ _⟩ t
  rw [hj]
  apply le_antisymm
  · refine Finset.sup_le fun i _ => ladder_mono _ _ ?_ (h j)
    rw [← hj]
    exact Finset.le_sup (Finset.mem_univ i)
  · exact Finset.le_sup (f := fun i => ladder (t i)) (Finset.mem_univ j)

/-! ## The exchanges -/

/-- One exchange: a lane's value against its partner's at distance `s`. -/
def swap (s : ℕ) (f : ℕ → EReal) : ℕ → EReal := fun l => max (f l) (f (l ^^^ s))

theorem le_swap (s : ℕ) (f : ℕ → EReal) (b : Bool) (l : ℕ) : f (l ^^^ (if b then s else 0)) ≤ swap s f l := by
  unfold swap
  cases b
  · simp
  · simp

/-- Five exchanges. -/
def swap5 (f : ℕ → EReal) : ℕ → EReal := swap 1 (swap 2 (swap 4 (swap 8 (swap 16 f))))

theorem le_swap5 (f : ℕ → EReal) (l d : ℕ) (hd : d < 32) : f (l ^^^ d) ≤ swap5 f l := by
  have key : ∀ d : Fin 32, ((((0 ^^^ (if d.val.testBit 0 then 1 else 0)) ^^^ (if d.val.testBit 1 then 2 else 0))
      ^^^ (if d.val.testBit 2 then 4 else 0)) ^^^ (if d.val.testBit 3 then 8 else 0)) ^^^ (if d.val.testBit 4 then 16 else 0) = d.val := by decide
  have e := key ⟨d, hd⟩
  simp only [Nat.zero_xor] at e
  have h : l ^^^ d = ((((l ^^^ (if d.testBit 0 then 1 else 0)) ^^^ (if d.testBit 1 then 2 else 0))
      ^^^ (if d.testBit 2 then 4 else 0)) ^^^ (if d.testBit 3 then 8 else 0)) ^^^ (if d.testBit 4 then 16 else 0) := by
    conv_lhs => rw [← e]
    simp only [Nat.xor_assoc]
  rw [h]
  exact (le_swap 16 f _ _).trans ((le_swap 8 _ _ _).trans ((le_swap 4 _ _ _).trans ((le_swap 2 _ _ _).trans (le_swap 1 _ _ _))))

theorem swap_le (s : ℕ) (hs : s < 32) (f : ℕ → EReal) (q : ℕ) (M : EReal) (h : ∀ l, l / 32 = q → f l ≤ M) :
    ∀ l, l / 32 = q → swap s f l ≤ M := by
  intro l hl
  refine max_le (h l hl) (h _ ?_)
  have : (l ^^^ s) / 32 = (l / 32) ^^^ (s / 32) := Nat.xor_div_two_pow (n := 5)
  rw [this, Nat.div_eq_of_lt hs, Nat.xor_zero, hl]

theorem swap5_eq (f : ℕ → EReal) (q : ℕ) (l : ℕ) (hl : l / 32 = q) :
    swap5 f l = Finset.univ.sup (fun r : Fin 32 => f (32 * q + r.val)) := by
  apply le_antisymm
  · have h0 : ∀ l, l / 32 = q → f l ≤ Finset.univ.sup (fun r : Fin 32 => f (32 * q + r.val)) := by
      intro l hl
      have e : l = 32 * q + (⟨l % 32, Nat.mod_lt _ (by norm_num)⟩ : Fin 32).val := by show l = 32 * q + l % 32; omega
      conv_lhs => rw [e]
      exact Finset.le_sup (f := fun r : Fin 32 => f (32 * q + r.val)) (Finset.mem_univ _)
    exact swap_le 1 (by norm_num) _ q _ (swap_le 2 (by norm_num) _ q _ (swap_le 4 (by norm_num) _ q _
      (swap_le 8 (by norm_num) _ q _ (swap_le 16 (by norm_num) _ q _ h0)))) l hl
  · refine Finset.sup_le fun r _ => ?_
    have hx : l ^^^ (l ^^^ (32 * q + r.val)) = 32 * q + r.val := by rw [← Nat.xor_assoc, Nat.xor_self, Nat.zero_xor]
    have hd : (l ^^^ (32 * q + r.val)) / 32 = 0 := by
      have : (l ^^^ (32 * q + r.val)) / 32 = (l / 32) ^^^ ((32 * q + r.val) / 32) := Nat.xor_div_two_pow (n := 5)
      rw [this, hl, show (32 * q + r.val) / 32 = q by omega, Nat.xor_self]
    have := le_swap5 f l (l ^^^ (32 * q + r.val)) (by omega)
    rwa [hx] at this

/-! ## The scale -/

/-- The reference's exponent of a block's scaled largest magnitude. -/
def expo (t : EReal) : EReal :=
  if t < ((2 : ℝ) ^ (-126 : ℤ) : ℝ) then 0 else
    Ideal.liftRound Int.floor (Ideal.div (Ideal.log t) ((Real.log 2 : ℝ) : EReal)) + 1

/-- The kernel's power of two: half where the block's is zero (or infinite). -/
def fixed (m : EReal) : EReal :=
  if (if m = 0 then ((1 / 2 : ℝ) : EReal) else m) = ⊤ then ((1 / 2 : ℝ) : EReal) else (if m = 0 then ((1 / 2 : ℝ) : EReal) else m)

theorem expo_real (a : ℝ) (k : ℤ) (h0 : (2 : ℝ) ^ (-126 : ℤ) ≤ a) (h1 : (2 : ℝ) ^ k ≤ a) (h2 : a < (2 : ℝ) ^ (k + 1)) :
    expo (a : EReal) = (((k + 1 : ℤ) : ℝ) : EReal) := by
  have ha : 0 < a := lt_of_lt_of_le (by positivity) h1
  have hl : 0 < Real.log 2 := Real.log_pos (by norm_num)
  unfold expo
  rw [if_neg (fun h' => absurd (EReal.coe_lt_coe_iff.mp h') (not_lt.mpr h0))]
  have e1 : Ideal.log (a : EReal) = ((Real.log a : ℝ) : EReal) := by
    show (if a ≤ 0 then ⊥ else ((Real.log a : ℝ) : EReal)) = _
    rw [if_neg (not_le.mpr ha)]
  have e2 : Ideal.div ((Real.log a : ℝ) : EReal) ((Real.log 2 : ℝ) : EReal) = ((Real.log a / Real.log 2 : ℝ) : EReal) := by
    unfold Ideal.div
    rw [if_neg (by exact_mod_cast hl.ne'), ← EReal.coe_inv, ← EReal.coe_mul, div_eq_mul_inv]
  rw [e1, e2]
  have e3 : ⌊Real.log a / Real.log 2⌋ = k := by
    rw [Int.floor_eq_iff]
    constructor
    · rw [le_div_iff₀ hl, ← Real.log_zpow]
      exact Real.log_le_log (by positivity) h1
    · rw [div_lt_iff₀ hl]
      have : ((k : ℝ) + 1) = ((k + 1 : ℤ) : ℝ) := by push_cast; ring
      rw [this, ← Real.log_zpow]
      exact Real.log_lt_log ha h2
  show ((⌊Real.log a / Real.log 2⌋ : ℝ) : EReal) + 1 = _
  rw [e3]
  push_cast
  rfl

theorem exp2_int (k : ℤ) : Ideal.exp2 (((k : ℝ)) : EReal) = (((2 : ℝ) ^ k : ℝ) : EReal) := by
  show ((Real.rpow 2 _ : ℝ) : EReal) = _
  congr 1
  exact Real.rpow_intCast 2 _

/-- The scale and its inverse, of a block's largest scaled magnitude. -/
theorem scale_eq (t : EReal) (h : t < ((2 : ℝ) ^ (130 : ℤ) : ℝ)) :
    fixed (ladder t) * ((2 : ℝ) : EReal) = Ideal.exp2 (expo t)
      ∧ Ideal.div ((1 / 2 : ℝ) : EReal) (fixed (ladder t)) = Ideal.exp2 (0 - expo t) := by
  by_cases h1 : t < ((2 : ℝ) ^ (-126 : ℤ) : ℝ)
  · have e : fixed (ladder t) = ((1 / 2 : ℝ) : EReal) := by
      unfold fixed
      rw [ladder_small t h1, if_pos rfl, if_neg (EReal.coe_ne_top _)]
    have e' : expo t = (((0 : ℤ) : ℝ) : EReal) := by
      unfold expo
      rw [if_pos h1]
      simp
    rw [e, e', exp2_int]
    have e2 : (0 : EReal) - (((0 : ℤ) : ℝ) : EReal) = (((0 : ℤ) : ℝ) : EReal) := by simp
    rw [e2, exp2_int]
    constructor
    · rw [← EReal.coe_mul]; norm_num
    · unfold Ideal.div
      rw [if_neg (by norm_num), ← EReal.coe_inv, ← EReal.coe_mul]; norm_num
  · obtain ⟨a, rfl, ha, hb⟩ := real_of t h1 h
    obtain ⟨k, e, p, q⟩ := ladder_spec a ha hb
    have hpos : (0 : ℝ) < (2 : ℝ) ^ k := by positivity
    have hne : (((2 : ℝ) ^ k : ℝ) : EReal) ≠ 0 := by exact_mod_cast hpos.ne'
    have ef : fixed (ladder (a : EReal)) = (((2 : ℝ) ^ k : ℝ) : EReal) := by
      unfold fixed
      rw [e, if_neg hne, if_neg (EReal.coe_ne_top _)]
    have e2 : (0 : EReal) - (((k + 1 : ℤ) : ℝ) : EReal) = (((-(k + 1) : ℤ) : ℝ) : EReal) := by
      rw [zero_sub, ← EReal.coe_neg]; push_cast; rfl
    rw [ef, expo_real a k ha p q, e2, exp2_int, exp2_int]
    constructor
    · rw [← EReal.coe_mul, zpow_add₀ (by norm_num), zpow_one]
    · unfold Ideal.div
      rw [if_neg hne, ← EReal.coe_inv, ← EReal.coe_mul, zpow_neg, zpow_add₀ (by norm_num), zpow_one]
      congr 1
      field_simp

end Cert.Proof.Quant
-- ==== Proof.ChunkIdeal.lean ====
/-
  A trip's codes and scales at one element, in the extended reals.
-/
module

public import proofs.«01_k».proof.Proof.Chunk
public import proofs.«01_k».proof.Proof.Quant
public import Idealize.ShloMosaic.Lib.Pointwise

@[expose] public section

set_option maxRecDepth 65536

noncomputable section

namespace Cert.Proof.Quant

open Idealize Idealize.ShloMosaic

/-! ## The literals -/

theorem lit_pow (b : BitVec 32) (k : ℤ) (h0 : b.extractLsb' 31 1 = 0#1) (h1 : (b.extractLsb' 23 8).toNat = (k + 127).toNat) (h2 : b.extractLsb' 0 23 = 0#23)
    (hk : 0 < k + 127) (hk' : k + 127 < 255) : Ideal.ofBits .f32 b = (((2 : ℝ) ^ k : ℝ) : EReal) := by
  show Ideal.ieee 8 23 b = _
  unfold Ideal.ieee
  have e2 : (b.extractLsb' 0 23).toNat = 0 := by rw [h2]; rfl
  have e0 : (b.extractLsb' (8 + 23) 1 == 1#1) = false := by
    show (b.extractLsb' 31 1 == 1#1) = false
    rw [h0]; rfl
  simp only [h1, e2, e0]
  rw [if_neg (by omega), if_neg (by omega)]
  congr 1
  have e : ((k + 127).toNat : ℤ) = k + 127 := Int.toNat_of_nonneg (by omega)
  rw [e]
  have e3 : (k + 127 - (2 ^ (8 - 1) - 1) - ((23 : ℕ) : ℤ)) = k - 23 := by norm_num
  rw [e3]
  have : (2 : ℝ) ^ k = 2 ^ (23 : ℤ) * 2 ^ (k - 23) := by rw [← zpow_add₀ (by norm_num)]; congr 1; ring
  rw [this]
  norm_num

theorem lit_min : Ideal.ofBits .f32 0x00800000#32 = (((2 : ℝ) ^ (-126 : ℤ) : ℝ) : EReal) := lit_pow _ _ (by decide) (by decide) (by decide) (by decide) (by decide)
theorem lit_64 : Ideal.ofBits .f32 0x5F800000#32 = (((2 : ℝ) ^ (64 : ℤ) : ℝ) : EReal) := lit_pow _ _ (by decide) (by decide) (by decide) (by decide) (by decide)
theorem lit_32 : Ideal.ofBits .f32 0x4F800000#32 = (((2 : ℝ) ^ (32 : ℤ) : ℝ) : EReal) := lit_pow _ _ (by decide) (by decide) (by decide) (by decide) (by decide)
theorem lit_16 : Ideal.ofBits .f32 0x47800000#32 = (((2 : ℝ) ^ (16 : ℤ) : ℝ) : EReal) := lit_pow _ _ (by decide) (by decide) (by decide) (by decide) (by decide)
theorem lit_8 : Ideal.ofBits .f32 0x43800000#32 = (((2 : ℝ) ^ (8 : ℤ) : ℝ) : EReal) := lit_pow _ _ (by decide) (by decide) (by decide) (by decide) (by decide)
theorem lit_4 : Ideal.ofBits .f32 0x41800000#32 = (((2 : ℝ) ^ (4 : ℤ) : ℝ) : EReal) := lit_pow _ _ (by decide) (by decide) (by decide) (by decide) (by decide)
theorem lit_2 : Ideal.ofBits .f32 0x40800000#32 = (((2 : ℝ) ^ (2 : ℤ) : ℝ) : EReal) := lit_pow _ _ (by decide) (by decide) (by decide) (by decide) (by decide)
theorem lit_1 : Ideal.ofBits .f32 0x40000000#32 = (((2 : ℝ) ^ (1 : ℤ) : ℝ) : EReal) := lit_pow _ _ (by decide) (by decide) (by decide) (by decide) (by decide)
theorem lit_0 : Ideal.ofBits .f32 0x00000000#32 = 0 := by simp [Ideal.ofBits, Ideal.ieee]
theorem lit_half : Ideal.ofBits .bf16 0x3F00#16 = ((1 / 2 : ℝ) : EReal) := by
  simp [Ideal.ofBits, Ideal.ieee]
  rw [← EReal.coe_mul]
  norm_num
theorem lit_two : Ideal.ofBits .bf16 0x4000#16 = ((2 : ℝ) : EReal) := by
  simp [Ideal.ofBits, Ideal.ieee]
  rw [← EReal.coe_mul]
  norm_num
theorem lit_zero : Ideal.ofBits .bf16 0x0000#16 = 0 := by simp [Ideal.ofBits, Ideal.ieee]
theorem lit_inf : Ideal.ofBits .bf16 0x7F80#16 = (⊤ : EReal) := by simp [Ideal.ofBits, Ideal.ieee]

/-- One over the format's largest, as the programs write it. -/
def c448 : EReal := Ideal.ofBits .f32 0x3B124925#32

/-- A value's magnitude, scaled. -/
def mag (v : EReal) : EReal := max (v * c448) (-(v * c448))

theorem select_lt (a b x y : EReal) : Scalar.select (Ideal.cmp .olt a b) x y = if a < b then x else y := by
  unfold Scalar.select Ideal.cmp
  by_cases h : a < b <;> simp [h]

theorem select_eq' (a b x y : EReal) : Scalar.select (Ideal.cmp .oeq a b) x y = if a = b then x else y := by
  unfold Scalar.select Ideal.cmp
  by_cases h : a = b <;> simp [h]

end Cert.Proof.Quant

namespace Cert.Proof.MlpIdeal

open Cert.MlpIdeal Cert.MlpIdeal.Gen
open Idealize Idealize.ShloMosaic Quant

/-! ## The chunk's operations at an element -/

theorem magV_apply (x : FVec Ideal S32x128 .f32) (j : S32x128.Idx) : magV x j = mag (x j) := rfl

theorem rungV_apply (t p : FVec Ideal S32x128 .f32) (b : BitVec 32) (j : S32x128.Idx) :
    rungV t p b j = rung (t j) (p j) (Ideal.ofBits .f32 b) := select_lt _ _ _ _

theorem ladV_apply (t : FVec Ideal S32x128 .f32) (j : S32x128.Idx) : ladV t j = ladder (t j) := by
  refine (select_lt _ _ _ _).trans ?_
  simp only [rungV_apply]
  unfold ladder
  show (if t j < Ideal.ofBits .f32 0x00800000#32 then Ideal.ofBits .f32 0x00000000#32 else
    rung (t j) (rung (t j) (rung (t j) (rung (t j) (rung (t j) (rung (t j) (rung (t j) (rung (t j) (rung (t j) (Ideal.ofBits .f32 0x00800000#32) _) _) _) _) _) _) _) _) _) = _
  rw [lit_min, lit_64, lit_32, lit_16, lit_8, lit_4, lit_2, lit_1, lit_0]

/-- The lane a gather reads. -/
def wrapL (l : BitVec 32) : BitVec 32 := Scalar.select (IntOp.cmpi .slt l 0#32) (l + 128#32) l

theorem wrapV_apply (l : IVec S32x128 32) (j : S32x128.Idx) : wrapV l j = wrapL (l j) := by
  have e : wrapV l = select (cmpi .slt l (broadcast S32x128 0#32)) (addi l (broadcast S32x128 128#32)) l := by
    unfold wrapV
    rw [shapeCast_comp, shapeCast_id]
  rw [e]
  rfl

theorem gather_apply (f : FVec Ideal S32x128 .f32) (l : IVec S32x128 32) (p : Fin 32) (q q' : Fin 128)
    (h : (wrapL (l (ix2 p q))).toNat % 128 = q'.val) : dynamicGather 1 f (wrapV l) (ix2 p q) = f (ix2 p q') := by
  unfold dynamicGather
  congr 1
  funext b
  fin_cases b
  · rfl
  · apply Fin.ext
    show (wrapV l (ix2 p q)).toNat % 128 = _
    rw [wrapV_apply, h]
    rfl

theorem lanes_apply (p : Fin 32) (q : Fin 128) : lanes (ix2 p q) = BitVec.ofNat 32 q.val := by
  show BitVec.ofNat 32 (0 * 128 + q.val) = _
  rw [Nat.zero_mul, Nat.zero_add]

/-- An exchange, for a distance whose partners are lanes. -/
theorem swapV_apply (m : FVec Ideal S32x128 .bf16) (f : FVec Ideal S32x128 .f32) (s : BitVec 32)
    (hs : ∀ q : Fin 128, (wrapL (BitVec.ofNat 32 q.val ^^^ s)).toNat % 128 = q.val ^^^ s.toNat) (hs' : s.toNat < 128)
    (p : Fin 32) (g : ℕ → EReal) (hm : ∀ q : Fin 128, m (ix2 p q) = g q.val) (hf : ∀ q : Fin 128, f (ix2 p q) = g q.val) (q : Fin 128) :
    swapV m f s (ix2 p q) = swap s.toNat g q.val := by
  show max (m (ix2 p q)) (dynamicGather 1 f (wrapV (xori lanes (broadcast S32x128 s))) (ix2 p q)) = _
  have hx : q.val ^^^ s.toNat < 128 := Nat.xor_lt_two_pow (n := 7) q.isLt hs'
  have hl : (wrapL (xori lanes (broadcast S32x128 s) (ix2 p q))).toNat % 128 = q.val ^^^ s.toNat := by
    rw [← hs q, ← lanes_apply p q]
    rfl
  rw [gather_apply f _ p q ⟨q.val ^^^ s.toNat, hx⟩ hl, hm, hf]
  rfl

theorem powV_apply (f : FVec Ideal S32x128 .f32) (p : Fin 32) (g : ℕ → EReal) (hf : ∀ q : Fin 128, f (ix2 p q) = g q.val) (q : Fin 128) :
    powV f (ix2 p q) = swap5 g q.val := by
  have h16 : ∀ q : Fin 128, (wrapL (BitVec.ofNat 32 q.val ^^^ 16#32)).toNat % 128 = q.val ^^^ (16#32 : BitVec 32).toNat := by decide
  have h8 : ∀ q : Fin 128, (wrapL (BitVec.ofNat 32 q.val ^^^ 8#32)).toNat % 128 = q.val ^^^ (8#32 : BitVec 32).toNat := by decide
  have h4 : ∀ q : Fin 128, (wrapL (BitVec.ofNat 32 q.val ^^^ 4#32)).toNat % 128 = q.val ^^^ (4#32 : BitVec 32).toNat := by decide
  have h2 : ∀ q : Fin 128, (wrapL (BitVec.ofNat 32 q.val ^^^ 2#32)).toNat % 128 = q.val ^^^ (2#32 : BitVec 32).toNat := by decide
  have h1 : ∀ q : Fin 128, (wrapL (BitVec.ofNat 32 q.val ^^^ 1#32)).toNat % 128 = q.val ^^^ (1#32 : BitVec 32).toNat := by decide
  have e16 := swapV_apply (truncf .bf16 f bitsLt_bf16_f32) f 16#32 h16 (by decide) p g hf hf
  have e8 := swapV_apply _ _ 8#32 h8 (by decide) p _ e16 e16
  have e4 := swapV_apply _ _ 4#32 h4 (by decide) p _ e8 e8
  have e2 := swapV_apply _ _ 2#32 h2 (by decide) p _ e4 e4
  exact swapV_apply _ _ 1#32 h1 (by decide) p _ e2 e2 q

theorem fixV_apply (x : FVec Ideal S32x128 .f32) (p : Fin 32) (y : ℕ → EReal) (hx : ∀ q : Fin 128, x (ix2 p q) = y q.val)
    (hb : ∀ k, mag (y k) < ((2 : ℝ) ^ (130 : ℤ) : ℝ)) (q : Fin 128) :
    fixV x (ix2 p q) = fixed (ladder (Finset.univ.sup fun r : Fin 32 => mag (y (32 * (q.val / 32) + r.val)))) := by
  have e : powV (ladV (magV x)) (ix2 p q) = ladder (Finset.univ.sup fun r : Fin 32 => mag (y (32 * (q.val / 32) + r.val))) := by
    rw [powV_apply _ p (fun k => ladder (mag (y k))) (fun q => by rw [ladV_apply, magV_apply, hx]), swap5_eq _ _ _ rfl]
    exact sup_ladder (fun r : Fin 32 => mag (y (32 * (q.val / 32) + r.val))) fun r => hb _
  have z : noZero (powV (ladV (magV x))) (ix2 p q) = if powV (ladV (magV x)) (ix2 p q) = 0 then ((1 / 2 : ℝ) : EReal) else powV (ladV (magV x)) (ix2 p q) := by
    refine (select_eq' _ _ _ _).trans ?_
    show (if _ = Ideal.ofBits .bf16 0x0000#16 then Ideal.ofBits .bf16 0x3F00#16 else _) = _
    rw [lit_zero, lit_half]
  refine (select_eq' _ _ _ _).trans ?_
  show (if _ = Ideal.ofBits .bf16 0x7F80#16 then Ideal.ofBits .bf16 0x3F00#16 else _) = _
  rw [lit_inf, lit_half, z, e]
  rfl

/-- A block's largest scaled magnitude. -/
def blockT (y : ℕ → EReal) (b : ℕ) : EReal := Finset.univ.sup fun r : Fin 32 => mag (y (32 * b + r.val))

/-- A block's scale, and an element's code. -/
def scaleOf (y : ℕ → EReal) (b : ℕ) : EReal := Ideal.exp2 (expo (blockT y b))
def codeOf (y : ℕ → EReal) (k : ℕ) : EReal :=
  min (Ideal.ofBits .f32 0x43E00000#32) (max (Ideal.ofBits .f32 0xC3E00000#32) (y k * Ideal.exp2 (0 - expo (blockT y (k / 32)))))

theorem blockT_lt (y : ℕ → EReal) (hb : ∀ k, mag (y k) < ((2 : ℝ) ^ (130 : ℤ) : ℝ)) (b : ℕ) : blockT y b < ((2 : ℝ) ^ (130 : ℤ) : ℝ) :=
  (Finset.sup_lt_iff (EReal.bot_lt_coe _)).mpr fun r _ => hb _

theorem scaleV_apply (x : FVec Ideal S32x128 .f32) (p : Fin 32) (y : ℕ → EReal) (hx : ∀ q : Fin 128, x (ix2 p q) = y q.val)
    (hb : ∀ k, mag (y k) < ((2 : ℝ) ^ (130 : ℤ) : ℝ)) (q : Fin 128) : scaleV x (ix2 p q) = scaleOf y (q.val / 32) := by
  show fixV x (ix2 p q) * Ideal.ofBits .bf16 0x4000#16 = _
  rw [lit_two, fixV_apply x p y hx hb]
  exact (scale_eq _ (blockT_lt y hb _)).1

theorem codeV_apply (x : FVec Ideal S32x128 .f32) (p : Fin 32) (y : ℕ → EReal) (hx : ∀ q : Fin 128, x (ix2 p q) = y q.val)
    (hb : ∀ k, mag (y k) < ((2 : ℝ) ^ (130 : ℤ) : ℝ)) (q : Fin 128) : codeV x (ix2 p q) = codeOf y q.val := by
  show min (Ideal.ofBits .f32 0x43E00000#32) (max (Ideal.ofBits .f32 0xC3E00000#32) (x (ix2 p q) * Ideal.div (Ideal.ofBits .bf16 0x3F00#16) (fixV x (ix2 p q)))) = _
  rw [lit_half, fixV_apply x p y hx hb, hx]
  unfold codeOf
  rw [← (scale_eq _ (blockT_lt y hb _)).2]
  rfl

end Cert.Proof.MlpIdeal
-- ==== Proof.RowsIdeal.lean ====
/-
  A trip's 32 rows of codes and scales, and the normalisation before them, at one element, in the extended reals.
-/
module

public import proofs.«01_k».proof.Proof.ChunkIdeal
public import proofs.«01_k».proof.Proof.Spec

@[expose] public section

set_option maxRecDepth 65536
set_option maxHeartbeats 2000000

noncomputable section

namespace Cert.Proof.MlpIdeal

open Cert.MlpIdeal Cert.MlpIdeal.Gen
open Idealize Idealize.ShloMosaic Quant

/-! ## Chunks of a row -/

theorem shift_block (y : ℕ → EReal) (c q : ℕ) : blockT (fun k => y (128 * c + k)) q = blockT y (4 * c + q) := by
  unfold blockT
  refine congrArg (Finset.univ.sup) (funext fun r => ?_)
  show mag (y (128 * c + (32 * q + r.val))) = mag (y (32 * (4 * c + q) + r.val))
  rw [show 128 * c + (32 * q + r.val) = 32 * (4 * c + q) + r.val by ring]

theorem shift_scale (y : ℕ → EReal) (c q : ℕ) : scaleOf (fun k => y (128 * c + k)) q = scaleOf y (4 * c + q) := by
  unfold scaleOf; rw [shift_block]

theorem shift_code (y : ℕ → EReal) (c k : ℕ) : codeOf (fun k => y (128 * c + k)) k = codeOf y (128 * c + k) := by
  unfold codeOf; rw [shift_block, show (128 * c + k) / 32 = 4 * c + k / 32 by omega]

theorem codeV_shift (x : FVec Ideal S32x128 .f32) (p : Fin 32) (y : ℕ → EReal) (c : ℕ) (hx : ∀ q : Fin 128, x (ix2 p q) = y (128 * c + q.val))
    (hb : ∀ k, mag (y k) < ((2 : ℝ) ^ (130 : ℤ) : ℝ)) (q : Fin 128) : codeV x (ix2 p q) = codeOf y (128 * c + q.val) := by
  rw [codeV_apply x p (fun k => y (128 * c + k)) hx fun k => hb _, shift_code]

theorem pickL (q : Fin 128) : (wrapL ((BitVec.ofNat 32 q.val &&& 3#32) * 32#32)).toNat % 128 = 32 * (q.val % 4) := by
  revert q; decide

theorem pickV_shift (x : FVec Ideal S32x128 .f32) (p : Fin 32) (y : ℕ → EReal) (c : ℕ) (hx : ∀ q : Fin 128, x (ix2 p q) = y (128 * c + q.val))
    (hb : ∀ k, mag (y k) < ((2 : ℝ) ^ (130 : ℤ) : ℝ)) (q : Fin 128) : pickV x (ix2 p q) = scaleOf y (4 * c + q.val % 4) := by
  have hl : (wrapL (muli (andi lanes (broadcast S32x128 3#32)) (broadcast S32x128 32#32) (ix2 p q))).toNat % 128 = 32 * (q.val % 4) := by
    rw [← pickL q, ← lanes_apply p q]
    rfl
  refine (gather_apply (extf .f32 (scaleV x) bitsLt_bf16_f32) _ p q ⟨32 * (q.val % 4), by omega⟩ hl).trans ?_
  refine (scaleV_apply x p (fun k => y (128 * c + k)) hx (fun k => hb _) _).trans ?_
  rw [shift_scale]
  congr 1
  show 4 * c + 32 * (q.val % 4) / 32 = _
  omega

theorem in0 (q : Fin 128) : IntOp.cmpi .eq (BitVec.sshiftRight (BitVec.ofNat 32 q.val) 2) 0#32 = if q.val / 4 = 0 then 1#1 else 0#1 := by
  revert q; decide
theorem in1 (q : Fin 128) : IntOp.cmpi .eq (BitVec.sshiftRight (BitVec.ofNat 32 q.val) 2) 1#32 = if q.val / 4 = 1 then 1#1 else 0#1 := by
  revert q; decide
theorem in2 (q : Fin 128) : IntOp.cmpi .eq (BitVec.sshiftRight (BitVec.ofNat 32 q.val) 2) 2#32 = if q.val / 4 = 2 then 1#1 else 0#1 := by
  revert q; decide
theorem in3 (q : Fin 128) : IntOp.cmpi .eq (BitVec.sshiftRight (BitVec.ofNat 32 q.val) 2) 3#32 = if q.val / 4 = 3 then 1#1 else 0#1 := by
  revert q; decide
theorem in4 (q : Fin 128) : IntOp.cmpi .eq (BitVec.sshiftRight (BitVec.ofNat 32 q.val) 2) 4#32 = if q.val / 4 = 4 then 1#1 else 0#1 := by
  revert q; decide
theorem in5 (q : Fin 128) : IntOp.cmpi .eq (BitVec.sshiftRight (BitVec.ofNat 32 q.val) 2) 5#32 = if q.val / 4 = 5 then 1#1 else 0#1 := by
  revert q; decide
theorem in6 (q : Fin 128) : IntOp.cmpi .eq (BitVec.sshiftRight (BitVec.ofNat 32 q.val) 2) 6#32 = if q.val / 4 = 6 then 1#1 else 0#1 := by
  revert q; decide
theorem in7 (q : Fin 128) : IntOp.cmpi .eq (BitVec.sshiftRight (BitVec.ofNat 32 q.val) 2) 7#32 = if q.val / 4 = 7 then 1#1 else 0#1 := by
  revert q; decide
theorem in8 (q : Fin 128) : IntOp.cmpi .eq (BitVec.sshiftRight (BitVec.ofNat 32 q.val) 2) 8#32 = if q.val / 4 = 8 then 1#1 else 0#1 := by
  revert q; decide
theorem in9 (q : Fin 128) : IntOp.cmpi .eq (BitVec.sshiftRight (BitVec.ofNat 32 q.val) 2) 9#32 = if q.val / 4 = 9 then 1#1 else 0#1 := by
  revert q; decide
theorem in10 (q : Fin 128) : IntOp.cmpi .eq (BitVec.sshiftRight (BitVec.ofNat 32 q.val) 2) 10#32 = if q.val / 4 = 10 then 1#1 else 0#1 := by
  revert q; decide
theorem in11 (q : Fin 128) : IntOp.cmpi .eq (BitVec.sshiftRight (BitVec.ofNat 32 q.val) 2) 11#32 = if q.val / 4 = 11 then 1#1 else 0#1 := by
  revert q; decide

theorem inV_apply (c : BitVec 32) (p : Fin 32) (q : Fin 128) : inV c (ix2 p q) = IntOp.cmpi .eq (BitVec.sshiftRight (BitVec.ofNat 32 q.val) 2) c := by
  rw [← lanes_apply p q]
  rfl

theorem select_if (P : Prop) [Decidable P] (x y : EReal) : Scalar.select (if P then 1#1 else 0#1) x y = if P then x else y := by
  by_cases h : P <;> simp [h, Scalar.select]

theorem inSelect (c : BitVec 32) (n : ℕ) (h : ∀ q : Fin 128, IntOp.cmpi .eq (BitVec.sshiftRight (BitVec.ofNat 32 q.val) 2) c = if q.val / 4 = n then 1#1 else 0#1)
    (x y : FVec Ideal S32x128 .f32) (p : Fin 32) (q : Fin 128) :
    select (inV c) x y (ix2 p q) = if q.val / 4 = n then x (ix2 p q) else y (ix2 p q) := by
  show Scalar.select (inV c (ix2 p q)) (x (ix2 p q)) (y (ix2 p q)) = _
  rw [inV_apply, h, select_if]

theorem cat12 {x0 x1 x2 x3 x4 x5 x6 x7 x8 x9 x10 x11 : FVec Ideal S32x128 .fp8e4m3} (z : ℕ → EReal) (p : Fin 32)
    (h0 : ∀ q : Fin 128, x0 (ix2 p q) = z (128 * 0 + q.val))
    (h1 : ∀ q : Fin 128, x1 (ix2 p q) = z (128 * 1 + q.val))
    (h2 : ∀ q : Fin 128, x2 (ix2 p q) = z (128 * 2 + q.val))
    (h3 : ∀ q : Fin 128, x3 (ix2 p q) = z (128 * 3 + q.val))
    (h4 : ∀ q : Fin 128, x4 (ix2 p q) = z (128 * 4 + q.val))
    (h5 : ∀ q : Fin 128, x5 (ix2 p q) = z (128 * 5 + q.val))
    (h6 : ∀ q : Fin 128, x6 (ix2 p q) = z (128 * 6 + q.val))
    (h7 : ∀ q : Fin 128, x7 (ix2 p q) = z (128 * 7 + q.val))
    (h8 : ∀ q : Fin 128, x8 (ix2 p q) = z (128 * 8 + q.val))
    (h9 : ∀ q : Fin 128, x9 (ix2 p q) = z (128 * 9 + q.val))
    (h10 : ∀ q : Fin 128, x10 (ix2 p q) = z (128 * 10 + q.val))
    (h11 : ∀ q : Fin 128, x11 (ix2 p q) = z (128 * 11 + q.val))
    (k : Fin 1536) : concatenate S32x1536 1 [⟨S32x128, x0⟩, ⟨S32x128, x1⟩, ⟨S32x128, x2⟩, ⟨S32x128, x3⟩, ⟨S32x128, x4⟩, ⟨S32x128, x5⟩, ⟨S32x128, x6⟩, ⟨S32x128, x7⟩, ⟨S32x128, x8⟩, ⟨S32x128, x9⟩, ⟨S32x128, x10⟩, ⟨S32x128, x11⟩] concatenates_S32x128_S32x128_S32x128_S32x128_S32x128_S32x128_S32x128_S32x128_S32x128_S32x128_S32x128_S32x128_S32x1536_d1 (ix2 p k) = z k.val := by
  have hk := k.isLt
  obtain ⟨c, hc⟩ : ∃ c, k.val / 128 = c := ⟨_, rfl⟩
  have hc12 : c < 12 := by omega
  have hlt : k.val - 128 * c < 128 := by omega
  have hsum : 128 * c + (k.val - 128 * c) = k.val := by omega
  have hi : ∀ b : Fin S32x128.rank, b.cast (rfl : S32x128.rank = S32x1536.rank) ≠ 1 →
      ((ix2 p ⟨k.val - 128 * c, hlt⟩ : S32x128.Idx) b).val = ((ix2 p k : S32x1536.Idx) (b.cast rfl)).val := by
    intro b hb1
    fin_cases b
    · rfl
    · exact absurd rfl hb1
  clear hk hc
  interval_cases c
  · exact (concatenate_apply_piece (t := S32x1536) 1 _ _ (ix2 p k) 0 (by show 0 < 12; decide) S32x128 x0 rfl rfl (0) rfl (ix2 p ⟨k.val - 128 * 0, hlt⟩) hi hsum).trans ((h0 _).trans (congrArg z hsum))
  · exact (concatenate_apply_piece (t := S32x1536) 1 _ _ (ix2 p k) 1 (by show 1 < 12; decide) S32x128 x1 rfl rfl (128) rfl (ix2 p ⟨k.val - 128 * 1, hlt⟩) hi hsum).trans ((h1 _).trans (congrArg z hsum))
  · exact (concatenate_apply_piece (t := S32x1536) 1 _ _ (ix2 p k) 2 (by show 2 < 12; decide) S32x128 x2 rfl rfl (256) rfl (ix2 p ⟨k.val - 128 * 2, hlt⟩) hi hsum).trans ((h2 _).trans (congrArg z hsum))
  · exact (concatenate_apply_piece (t := S32x1536) 1 _ _ (ix2 p k) 3 (by show 3 < 12; decide) S32x128 x3 rfl rfl (384) rfl (ix2 p ⟨k.val - 128 * 3, hlt⟩) hi hsum).trans ((h3 _).trans (congrArg z hsum))
  · exact (concatenate_apply_piece (t := S32x1536) 1 _ _ (ix2 p k) 4 (by show 4 < 12; decide) S32x128 x4 rfl rfl (512) rfl (ix2 p ⟨k.val - 128 * 4, hlt⟩) hi hsum).trans ((h4 _).trans (congrArg z hsum))
  · exact (concatenate_apply_piece (t := S32x1536) 1 _ _ (ix2 p k) 5 (by show 5 < 12; decide) S32x128 x5 rfl rfl (640) rfl (ix2 p ⟨k.val - 128 * 5, hlt⟩) hi hsum).trans ((h5 _).trans (congrArg z hsum))
  · exact (concatenate_apply_piece (t := S32x1536) 1 _ _ (ix2 p k) 6 (by show 6 < 12; decide) S32x128 x6 rfl rfl (768) rfl (ix2 p ⟨k.val - 128 * 6, hlt⟩) hi hsum).trans ((h6 _).trans (congrArg z hsum))
  · exact (concatenate_apply_piece (t := S32x1536) 1 _ _ (ix2 p k) 7 (by show 7 < 12; decide) S32x128 x7 rfl rfl (896) rfl (ix2 p ⟨k.val - 128 * 7, hlt⟩) hi hsum).trans ((h7 _).trans (congrArg z hsum))
  · exact (concatenate_apply_piece (t := S32x1536) 1 _ _ (ix2 p k) 8 (by show 8 < 12; decide) S32x128 x8 rfl rfl (1024) rfl (ix2 p ⟨k.val - 128 * 8, hlt⟩) hi hsum).trans ((h8 _).trans (congrArg z hsum))
  · exact (concatenate_apply_piece (t := S32x1536) 1 _ _ (ix2 p k) 9 (by show 9 < 12; decide) S32x128 x9 rfl rfl (1152) rfl (ix2 p ⟨k.val - 128 * 9, hlt⟩) hi hsum).trans ((h9 _).trans (congrArg z hsum))
  · exact (concatenate_apply_piece (t := S32x1536) 1 _ _ (ix2 p k) 10 (by show 10 < 12; decide) S32x128 x10 rfl rfl (1280) rfl (ix2 p ⟨k.val - 128 * 10, hlt⟩) hi hsum).trans ((h10 _).trans (congrArg z hsum))
  · exact (concatenate_apply_piece (t := S32x1536) 1 _ _ (ix2 p k) 11 (by show 11 < 12; decide) S32x128 x11 rfl rfl (1408) rfl (ix2 p ⟨k.val - 128 * 11, hlt⟩) hi hsum).trans ((h11 _).trans (congrArg z hsum))

theorem left48 (x : FVec Ideal S32x128 .f32) (p : Fin 32) (b : Fin 48) :
    extractStridedSlice S32x48 ![0, 0] x slices_S32x128_o0_0_S32x48 (ix2 p b) = x (ix2 p ⟨b.val, by omega⟩) := by
  pointwise

section Rows

variable (r : FVec Ideal S32x1536 .f32) (p : Fin 32) (y : ℕ → EReal) (hr : ∀ k : Fin 1536, r (ix2 p k) = y k.val)
include hr

theorem sl0_apply (q : Fin 128) : sl0 r (ix2 p q) = y (128 * 0 + q.val) := by
  pointwise [sl0]
  rw [hr]
theorem sl1_apply (q : Fin 128) : sl1 r (ix2 p q) = y (128 * 1 + q.val) := by
  pointwise [sl1]
  rw [hr]
theorem sl2_apply (q : Fin 128) : sl2 r (ix2 p q) = y (128 * 2 + q.val) := by
  pointwise [sl2]
  rw [hr]
theorem sl3_apply (q : Fin 128) : sl3 r (ix2 p q) = y (128 * 3 + q.val) := by
  pointwise [sl3]
  rw [hr]
theorem sl4_apply (q : Fin 128) : sl4 r (ix2 p q) = y (128 * 4 + q.val) := by
  pointwise [sl4]
  rw [hr]
theorem sl5_apply (q : Fin 128) : sl5 r (ix2 p q) = y (128 * 5 + q.val) := by
  pointwise [sl5]
  rw [hr]
theorem sl6_apply (q : Fin 128) : sl6 r (ix2 p q) = y (128 * 6 + q.val) := by
  pointwise [sl6]
  rw [hr]
theorem sl7_apply (q : Fin 128) : sl7 r (ix2 p q) = y (128 * 7 + q.val) := by
  pointwise [sl7]
  rw [hr]
theorem sl8_apply (q : Fin 128) : sl8 r (ix2 p q) = y (128 * 8 + q.val) := by
  pointwise [sl8]
  rw [hr]
theorem sl9_apply (q : Fin 128) : sl9 r (ix2 p q) = y (128 * 9 + q.val) := by
  pointwise [sl9]
  rw [hr]
theorem sl10_apply (q : Fin 128) : sl10 r (ix2 p q) = y (128 * 10 + q.val) := by
  pointwise [sl10]
  rw [hr]
theorem sl11_apply (q : Fin 128) : sl11 r (ix2 p q) = y (128 * 11 + q.val) := by
  pointwise [sl11]
  rw [hr]

variable (hb : ∀ k, mag (y k) < ((2 : ℝ) ^ (130 : ℤ) : ℝ))
include hb

theorem codesV_apply (k : Fin 1536) : codesV r (ix2 p k) = codeOf y k.val :=
  cat12 (codeOf y) p (fun q => codeV_shift _ p y 0 (sl0_apply r p y hr) hb q)
    (fun q => codeV_shift _ p y 1 (sl1_apply r p y hr) hb q)
    (fun q => codeV_shift _ p y 2 (sl2_apply r p y hr) hb q)
    (fun q => codeV_shift _ p y 3 (sl3_apply r p y hr) hb q)
    (fun q => codeV_shift _ p y 4 (sl4_apply r p y hr) hb q)
    (fun q => codeV_shift _ p y 5 (sl5_apply r p y hr) hb q)
    (fun q => codeV_shift _ p y 6 (sl6_apply r p y hr) hb q)
    (fun q => codeV_shift _ p y 7 (sl7_apply r p y hr) hb q)
    (fun q => codeV_shift _ p y 8 (sl8_apply r p y hr) hb q)
    (fun q => codeV_shift _ p y 9 (sl9_apply r p y hr) hb q)
    (fun q => codeV_shift _ p y 10 (sl10_apply r p y hr) hb q)
    (fun q => codeV_shift _ p y 11 (sl11_apply r p y hr) hb q) k

theorem scalesV_apply (b : Fin 48) : scalesV r (ix2 p b) = scaleOf y b.val := by
  have hb48 := b.isLt
  unfold scalesV
  rw [left48]
  rw [inSelect 11#32 11 in11, inSelect 10#32 10 in10, inSelect 9#32 9 in9, inSelect 8#32 8 in8, inSelect 7#32 7 in7, inSelect 6#32 6 in6, inSelect 5#32 5 in5, inSelect 4#32 4 in4, inSelect 3#32 3 in3, inSelect 2#32 2 in2, inSelect 1#32 1 in1,
    pickV_shift _ p y 11 (sl11_apply r p y hr) hb, pickV_shift _ p y 10 (sl10_apply r p y hr) hb, pickV_shift _ p y 9 (sl9_apply r p y hr) hb, pickV_shift _ p y 8 (sl8_apply r p y hr) hb, pickV_shift _ p y 7 (sl7_apply r p y hr) hb, pickV_shift _ p y 6 (sl6_apply r p y hr) hb, pickV_shift _ p y 5 (sl5_apply r p y hr) hb, pickV_shift _ p y 4 (sl4_apply r p y hr) hb, pickV_shift _ p y 3 (sl3_apply r p y hr) hb, pickV_shift _ p y 2 (sl2_apply r p y hr) hb, pickV_shift _ p y 1 (sl1_apply r p y hr) hb, pickV_shift _ p y 0 (sl0_apply r p y hr) hb]
  show (if b.val / 4 = 11 then _ else _) = _
  by_cases h11 : b.val / 4 = 11
  · rw [if_pos h11]; exact congrArg (scaleOf y) (by show 4 * 11 + b.val % 4 = b.val; omega)
  rw [if_neg h11]
  by_cases h10 : b.val / 4 = 10
  · rw [if_pos h10]; exact congrArg (scaleOf y) (by show 4 * 10 + b.val % 4 = b.val; omega)
  rw [if_neg h10]
  by_cases h9 : b.val / 4 = 9
  · rw [if_pos h9]; exact congrArg (scaleOf y) (by show 4 * 9 + b.val % 4 = b.val; omega)
  rw [if_neg h9]
  by_cases h8 : b.val / 4 = 8
  · rw [if_pos h8]; exact congrArg (scaleOf y) (by show 4 * 8 + b.val % 4 = b.val; omega)
  rw [if_neg h8]
  by_cases h7 : b.val / 4 = 7
  · rw [if_pos h7]; exact congrArg (scaleOf y) (by show 4 * 7 + b.val % 4 = b.val; omega)
  rw [if_neg h7]
  by_cases h6 : b.val / 4 = 6
  · rw [if_pos h6]; exact congrArg (scaleOf y) (by show 4 * 6 + b.val % 4 = b.val; omega)
  rw [if_neg h6]
  by_cases h5 : b.val / 4 = 5
  · rw [if_pos h5]; exact congrArg (scaleOf y) (by show 4 * 5 + b.val % 4 = b.val; omega)
  rw [if_neg h5]
  by_cases h4 : b.val / 4 = 4
  · rw [if_pos h4]; exact congrArg (scaleOf y) (by show 4 * 4 + b.val % 4 = b.val; omega)
  rw [if_neg h4]
  by_cases h3 : b.val / 4 = 3
  · rw [if_pos h3]; exact congrArg (scaleOf y) (by show 4 * 3 + b.val % 4 = b.val; omega)
  rw [if_neg h3]
  by_cases h2 : b.val / 4 = 2
  · rw [if_pos h2]; exact congrArg (scaleOf y) (by show 4 * 2 + b.val % 4 = b.val; omega)
  rw [if_neg h2]
  by_cases h1 : b.val / 4 = 1
  · rw [if_pos h1]; exact congrArg (scaleOf y) (by show 4 * 1 + b.val % 4 = b.val; omega)
  rw [if_neg h1]
  exact congrArg (scaleOf y) (by show 4 * 0 + b.val % 4 = b.val; omega)

end Rows

end Cert.Proof.MlpIdeal
-- ==== Proof.NormRow.lean ====
/-
  A normalised row in the extended reals: the kernel's 32 rows are it, and, for gains within the format's range, no element of it
  is so large that the ladder would not hold it.
-/
module

public import proofs.«01_k».proof.Proof.RowsIdeal

@[expose] public section

set_option maxRecDepth 65536

noncomputable section

namespace Cert.Proof.Quant

open Idealize Idealize.ShloMosaic

def eps : EReal := Ideal.ofBits .f32 0x3727C5AC#32
def f32max : EReal := Ideal.ofBits .f32 0x7F7FFFFF#32

/-- A row `x`, normalised with gains `w`, at column `k`. -/
def nrm (x w : Fin 1536 → EReal) (k : ℕ) : EReal :=
  if h : k < 1536 then x ⟨k, h⟩ * Ideal.rsqrt ((∑ j, x j * x j) * ((1 / 1536 : ℝ) : EReal) + eps) * w ⟨k, h⟩ else 0

theorem lit_pos (b : BitVec 32) (h0 : b.extractLsb' 31 1 = 0#1) (h1 : (b.extractLsb' 23 8).toNat ≠ 0) (h2 : (b.extractLsb' 23 8).toNat ≠ 255) :
    Ideal.ofBits .f32 b = (((2 ^ 23 + (b.extractLsb' 0 23).toNat : ℕ) * (2 : ℝ) ^ (((b.extractLsb' 23 8).toNat : ℤ) - 127 - 23) : ℝ) : EReal) := by
  show Ideal.ieee 8 23 b = _
  unfold Ideal.ieee
  have e0 : (b.extractLsb' (8 + 23) 1 == 1#1) = false := by
    show (b.extractLsb' 31 1 == 1#1) = false
    rw [h0]; rfl
  simp only [e0]
  rw [if_neg (by omega), if_neg h1]
  norm_num

theorem eps_pos : ∃ e : ℝ, 0 < e ∧ eps = (e : EReal) := by
  refine ⟨_, ?_, lit_pos _ (by decide) (by decide) (by decide)⟩
  positivity

theorem c448_real : ∃ c : ℝ, 0 < c ∧ c ≤ 1 / 256 ∧ c448 = (c : EReal) := by
  refine ⟨_, ?_, ?_, lit_pos _ (by decide) (by decide) (by decide)⟩
  · positivity
  · rw [show (BitVec.extractLsb' 0 23 0x3B124925#32).toNat = 1198373 by decide, show (BitVec.extractLsb' 23 8 0x3B124925#32).toNat = 118 by decide]
    norm_num

theorem f32max_real : ∃ c : ℝ, 0 < c ∧ c ≤ (2 : ℝ) ^ (128 : ℤ) ∧ f32max = (c : EReal) := by
  refine ⟨_, ?_, ?_, lit_pos _ (by decide) (by decide) (by decide)⟩
  · positivity
  · rw [show (BitVec.extractLsb' 0 23 0x7F7FFFFF#32).toNat = 8388607 by decide, show (BitVec.extractLsb' 23 8 0x7F7FFFFF#32).toNat = 254 by decide]
    norm_num

theorem sq_nonneg (a : EReal) : 0 ≤ a * a := by
  induction a with
  | bot => simp
  | top => simp
  | coe a => rw [← EReal.coe_mul]; exact_mod_cast mul_self_nonneg a

theorem sq_top (a : EReal) (h : a * a ≠ ⊤) : ∃ r : ℝ, a = (r : EReal) := by
  induction a with
  | bot => simp at h
  | top => simp at h
  | coe a => exact ⟨a, rfl⟩

theorem coe_sum (x : Fin 1536 → ℝ) : ((∑ j, x j : ℝ) : EReal) = ∑ j, (x j : EReal) := by
  classical
  induction (Finset.univ : Finset (Fin 1536)) using Finset.induction_on with
  | empty => simp
  | insert a s ha ih => rw [Finset.sum_insert ha, Finset.sum_insert ha, EReal.coe_add, ih]

theorem mag_zero : mag 0 < ((2 : ℝ) ^ (130 : ℤ) : ℝ) := by
  unfold mag
  simp only [zero_mul, neg_zero, max_self]
  exact EReal.coe_pos.mpr (by positivity)

theorem mag_nrm (x w : Fin 1536 → EReal) (hw : ∀ k, max (w k) (-(w k)) ≤ f32max) (k : ℕ) : mag (nrm x w k) < ((2 : ℝ) ^ (130 : ℤ) : ℝ) := by
  unfold nrm
  by_cases h : k < 1536
  swap
  · rw [dif_neg h]; exact mag_zero
  rw [dif_pos h]
  obtain ⟨e, he, hee⟩ := eps_pos
  obtain ⟨c, hc, hc1, hcc⟩ := c448_real
  obtain ⟨M, hM, hM1, hMM⟩ := f32max_real
  rw [hee]
  by_cases hS : (∑ j, x j * x j) = ⊤
  · rw [hS, EReal.top_mul_coe_of_pos (by norm_num), EReal.top_add_coe]
    show mag (x ⟨k, h⟩ * 0 * _) < _
    rw [mul_zero, zero_mul]
    exact mag_zero
  have hx : ∀ j, ∃ r : ℝ, x j = (r : EReal) := fun j => sq_top _ fun ht => hS (top_unique (ht ▸ Finset.single_le_sum (f := fun j => x j * x j) (fun i _ => sq_nonneg (x i)) (Finset.mem_univ j)))
  choose a ha using hx
  have hsum : (∑ j, x j * x j) = ((∑ j, a j * a j : ℝ) : EReal) := by
    rw [coe_sum]
    exact Finset.sum_congr rfl fun j _ => by rw [ha, EReal.coe_mul]
  have hwr : ∃ b : ℝ, w ⟨k, h⟩ = (b : EReal) ∧ |b| ≤ M := by
    have := hw ⟨k, h⟩
    rw [hMM] at this
    obtain ⟨h1, h2⟩ := max_le_iff.mp this
    revert h1 h2
    induction w ⟨k, h⟩ with
    | bot => intro h1 h2; simp at h2
    | top => intro h1 h2; simp at h1
    | coe b =>
      intro h1 h2
      refine ⟨b, rfl, abs_le.mpr ⟨?_, by exact_mod_cast h1⟩⟩
      have : -b ≤ M := by exact_mod_cast h2
      linarith
  obtain ⟨b, hb, hbM⟩ := hwr
  set S : ℝ := ∑ j, a j * a j with hSdef
  have hS0 : 0 ≤ S := Finset.sum_nonneg fun j _ => mul_self_nonneg _
  set v : ℝ := S * (1 / 1536) + e with hv
  have hv0 : 0 < v := by positivity
  have hrs : Ideal.rsqrt ((∑ j, x j * x j) * ((1 / 1536 : ℝ) : EReal) + (e : EReal)) = (((Real.sqrt v)⁻¹ : ℝ) : EReal) := by
    rw [hsum, ← EReal.coe_mul, ← EReal.coe_add]
    show (if v < 0 then (⊥ : EReal) else if v = 0 then ⊤ else (((Real.sqrt v)⁻¹ : ℝ) : EReal)) = _
    rw [if_neg (by linarith), if_neg (by linarith)]
  rw [hrs, ha, hb]
  unfold mag
  rw [hcc, ← EReal.coe_mul, ← EReal.coe_mul, ← EReal.coe_mul, ← EReal.coe_neg]
  have hs : 0 < Real.sqrt v := Real.sqrt_pos.mpr hv0
  have hak : |a ⟨k, h⟩| ≤ 40 * Real.sqrt v := by
    have h1 : a ⟨k, h⟩ * a ⟨k, h⟩ ≤ S := Finset.single_le_sum (f := fun j => a j * a j) (fun i _ => mul_self_nonneg (a i)) (Finset.mem_univ _)
    have h2 : S ≤ 1536 * v := by rw [hv]; linarith
    have h3 : Real.sqrt v * Real.sqrt v = v := Real.mul_self_sqrt hv0.le
    refine abs_le_of_sq_le_sq (by nlinarith) (by positivity)
  have hu : |a ⟨k, h⟩ * (Real.sqrt v)⁻¹| ≤ 40 := by
    rw [abs_mul, abs_of_pos (inv_pos.mpr hs)]
    calc |a ⟨k, h⟩| * (Real.sqrt v)⁻¹ ≤ 40 * Real.sqrt v * (Real.sqrt v)⁻¹ := by gcongr
      _ = 40 := by field_simp
  have hfin : |a ⟨k, h⟩ * (Real.sqrt v)⁻¹ * b * c| < (2 : ℝ) ^ (130 : ℤ) := by
    rw [abs_mul, abs_mul, abs_of_pos hc]
    calc |a ⟨k, h⟩ * (Real.sqrt v)⁻¹| * |b| * c ≤ 40 * (2 : ℝ) ^ (128 : ℤ) * (1 / 256) := by
          have : |b| ≤ (2 : ℝ) ^ (128 : ℤ) := hbM.trans hM1
          gcongr
      _ < (2 : ℝ) ^ (130 : ℤ) := by norm_num
  obtain ⟨h1, h2⟩ := abs_lt.mp hfin
  refine max_lt (by exact_mod_cast h2) ?_
  have : -(a ⟨k, h⟩ * (Real.sqrt v)⁻¹ * b * c) < (2 : ℝ) ^ (130 : ℤ) := by linarith
  exact_mod_cast this

end Cert.Proof.Quant

namespace Cert.Proof.MlpIdeal

open Cert.MlpIdeal Cert.MlpIdeal.Gen
open Idealize Idealize.ShloMosaic Quant

/-- The 32 rows the kernel normalises, at an element. -/
theorem pay3_apply (v : Vec Ideal S32x1536 .bf16) (w : Vec Ideal S1x1536 .f32) (p : Fin 32) (k : Fin 1536) :
    k0_pay3 (F := Ideal) v w (ix2 p k) = nrm (fun j => v (ix2 p j)) (fun j => w (ix2 0 j)) k.val := by
  unfold nrm
  rw [dif_pos k.isLt]
  pointwise [k0_pay3]
  rfl

end Cert.Proof.MlpIdeal
-- ==== Proof.MlpWritten.lean ====
/-
  What the first point's loop leaves in the codes and the scales: trip `k` stores rows `32 k … 32 k + 31`, so the 56 trips' writes
  read, at any row, as the codes and scales of that row normalised.
-/
module

public import proofs.«01_k».proof.Proof.NormRow
public import Idealize.ShloMosaic.Lib.WritesUnit
public import Idealize.ShloMosaic.Lib.Pipeline.ValueKit

@[expose] public section

set_option maxRecDepth 16384
set_option maxHeartbeats 4000000

noncomputable section

namespace Cert.Proof.MlpIdeal

open Cert.MlpIdeal Cert.MlpIdeal.Gen
open Idealize Idealize.ShloMosaic Idealize.ShloMosaic.TcCoe Idealize.ShloMosaic.Tactic
open Cert.Proof.Quant
open Facts

/-- Row `p` of the rows, normalised. -/
def rowM (X1 : Vec Ideal S1792x1536 .bf16) (X2 : Vec Ideal S1x1536 .f32) (p : Fin 1792) : ℕ → EReal :=
  nrm (fun j => X1 (ix2 p j)) (fun j => X2 (ix2 0 j))

/-- The codes and the scales of every row. -/
def codesArr (X1 : Vec Ideal S1792x1536 .bf16) (X2 : Vec Ideal S1x1536 .f32) : Vec Ideal S1792x1536 .fp8e4m3 :=
  fun y => codeOf (rowM X1 X2 (y 0)) (y 1).val
def scalesArr (X1 : Vec Ideal S1792x1536 .bf16) (X2 : Vec Ideal S1x1536 .f32) : Vec Ideal S1792x48 .f32 :=
  fun y => scaleOf (rowM X1 X2 (y 0)) (y 1).val

/-- The gains are within the format's range. -/
def GainOk (X2 : Vec Ideal S1x1536 .f32) : Prop := ∀ k : Fin 1536, max (X2 (ix2 0 k)) (-(X2 (ix2 0 k))) ≤ f32max

theorem off1_eq (k : Fin k0_t1_loop.trips) : k0_off1 k = ![32 * k.val, 0] := by
  have hk : k.val < 56 := Nat.lt_of_lt_of_le k.isLt k0_t1_abs.2.1
  have e' : (Scalar.indexCast (Scalar.muli (Scf.iv 0#32 1#32 k.val) 32#32) : Index).toNat = 32 * k.val := by
    have h1 : (Scf.iv 0#32 1#32 k.val).toNat = k.val := by
      simp [Scf.iv]; omega
    show (Scf.iv 0#32 1#32 k.val * 32#32).toNat = _
    rw [BitVec.toNat_mul, h1]
    show k.val * 32 % 2 ^ 32 = _
    omega
  exact congrArg (fun n : ℕ => (![n, 0] : Fin 2 → ℕ)) e'

theorem off2_eq (k : Fin k0_t1_loop.trips) : k0_off2 k = ![32 * k.val, 0] := (show k0_off2 k = k0_off1 k from rfl).trans (off1_eq k)

section
variable (𝒱 : Variants) (c : Dev nD) (bd : Option 𝒱.V) (i : grid0.Coords) (arg1 : Memref sig .tc .vmem S1792x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S280x1536 .i8) (harg4 : arg4.IsWhole) (arg5 : Memref sig .tc .vmem S1536x256 .fp8e4m3) (harg5 : arg5.IsWhole) (arg6 : Memref sig .tc .vmem S48x256 .i8) (harg6 : arg6.IsWhole) (arg7 : Memref sig .tc .vmem S1536x256 .fp8e4m3) (harg7 : arg7.IsWhole) (arg8 : Memref sig .tc .vmem S48x256 .i8) (harg8 : arg8.IsWhole) (arg9 : Memref sig .tc .vmem S256x1536 .fp8e4m3) (harg9 : arg9.IsWhole) (arg10 : Memref sig .tc .vmem S1792x1536 .fp8e4m3) (harg10 : arg10.IsWhole) (arg11 : Memref sig .tc .vmem S1792x48 .f32) (harg11 : arg11.IsWhole) (arg12 : Memref sig .tc .vmem S1792x256 .fp8e4m3) (harg12 : arg12.IsWhole) (arg13 : Memref sig .tc .vmem S1792x280 .f32) (harg13 : arg13.IsWhole) (arg14 : Memref sig .tc .vmem S1792x1536 .bf16) (harg14 : arg14.IsWhole) (arg15 : Memref sig .tc .vmem S1792x1536 .fp8e4m3) (harg15 : arg15.IsWhole) (arg16 : Memref sig .tc .vmem S1792x48 .f32) (harg16 : arg16.IsWhole) (arg17 : Memref sig .tc .vmem S1792x1536 .bf16) (harg17 : arg17.IsWhole) (arg18 : Memref sig .tc .vmem S1792x1536 .bf16) (harg18 : arg18.IsWhole) (arg19 : Memref sig .tc .vmem S1792x1536 .f32) (harg19 : arg19.IsWhole) (arg20 : Memref sig .tc .vmem S1536x256 .bf16) (harg20 : arg20.IsWhole) (arg21 : Memref sig .tc .vmem S1536x256 .bf16) (harg21 : arg21.IsWhole) (arg22 : Memref sig .tc .vmem S256x1536 .bf16) (harg22 : arg22.IsWhole) (arg23 : Memref sig .tc .vmem S48x256 .i32) (harg23 : arg23.IsWhole) (arg24 : Memref sig .tc .vmem S48x256 .i32) (harg24 : arg24.IsWhole) (arg25 : Memref sig .tc .vmem S280x1536 .i32) (harg25 : arg25.IsWhole) (arg26 : Memref sig .tc .vmem S1792x384 .f32) (harg26 : arg26.IsWhole) (k0_h1 : k0_cond1 i = 1#1)
  (f1 : BufTy.Contents (Elt Ideal) arg1.view.ty) (f2 : BufTy.Contents (Elt Ideal) arg2.view.ty)

/-- A trip's rows, normalised. -/
theorem rowsOf_apply (k : Fin k0_t1_loop.trips) (p : Fin 32) (P : Fin 1792) (hP : P.val = 32 * k.val + p.val) (j : Fin 1536) :
    rowsOf i arg1 arg2 k0_h1 f1 f2 k (ix2 p j) = rowM (arg1.view.read (Elt Ideal) f1) (arg2.view.read (Elt Ideal) f2) P j.val := by
  unfold rowsOf
  rw [pay3_apply]
  unfold rowM
  have e1 : (fun j : Fin 1536 => arg1.view.readAt (Elt Ideal) (Rect.unit (s := S1792x1536) (k0_off1 k) S32x1536.size (k0_off1_inb i k k0_h1)).toLoadRect f1 (ix2 p j))
      = fun j => arg1.view.read (Elt Ideal) f1 (ix2 P j) := by
    funext j
    refine congrArg (arg1.view.read (Elt Ideal) f1) (funext fun a => Fin.ext ?_)
    refine (ValueKit.rect_emb_unit_val (s := S1792x1536) (k0_off1 k) S32x1536.size (k0_off1_inb i k k0_h1) (ix2 p j) a).trans ?_
    match a with
    | ⟨0, _⟩ => exact (congrArg (· + p.val) (congrFun (off1_eq k) 0)).trans hP.symm
    | ⟨1, _⟩ => exact (congrArg (· + j.val) (congrFun (off1_eq k) 1)).trans (Nat.zero_add _)
  have e2 : (fun j : Fin 1536 => arg2.view.readAt (Elt Ideal) (Rect.unit (s := S1x1536) ![0, 0] S1x1536.size inb_S1x1536_S1x1536_0_0).toLoadRect f2 (ix2 0 j))
      = fun j => arg2.view.read (Elt Ideal) f2 (ix2 0 j) := by
    funext j
    refine congrArg (arg2.view.read (Elt Ideal) f2) (funext fun a => Fin.ext ?_)
    refine (ValueKit.rect_emb_unit_val (s := S1x1536) ![0, 0] S1x1536.size inb_S1x1536_S1x1536_0_0 (ix2 0 j) a).trans ?_
    match a with
    | ⟨0, _⟩ => exact Nat.zero_add _
    | ⟨1, _⟩ => exact Nat.zero_add _
  exact congrArg₂ (fun x w => nrm x w j.val) e1 e2

variable (hg : GainOk (arg2.view.read (Elt Ideal) f2))
include hg

theorem codes_at (k : Fin k0_t1_loop.trips) (x : (⟨2, ![32, 1536]⟩ : Shape).Idx) (y : S1792x1536.Idx) (h0 : (y 0).val = 32 * k.val + (x 0).val) (h1 : (y 1).val = (x 1).val) :
    codesV (rowsOf i arg1 arg2 k0_h1 f1 f2 k) x = codesArr (arg1.view.read (Elt Ideal) f1) (arg2.view.read (Elt Ideal) f2) y := by
  have hx : x = ix2 (x 0 : Fin 32) (x 1 : Fin 1536) := by
    funext a
    match a with
    | ⟨0, _⟩ => rfl
    | ⟨1, _⟩ => rfl
  have e := codesV_apply (rowsOf i arg1 arg2 k0_h1 f1 f2 k) (x 0) (rowM (arg1.view.read (Elt Ideal) f1) (arg2.view.read (Elt Ideal) f2) (y 0))
    (fun j => rowsOf_apply i arg1 arg2 k0_h1 f1 f2 k (x 0) (y 0) h0 j) (fun j => mag_nrm _ _ hg j) (x 1)
  rw [hx]
  refine e.trans ?_
  show _ = codeOf _ (y 1).val
  rw [h1]

theorem codes_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 k).1, ∀ x, p.2 x = codesArr (arg1.view.read (Elt Ideal) f1) (arg2.view.read (Elt Ideal) f2) (p.1.emb x) := by
  unfold tripL_k0_t1 trip_k0_t1
  dsimp only
  intro p hp
  rw [List.mem_singleton] at hp
  subst hp
  intro x
  refine (congrFun (codes_eq i arg1 arg2 k0_h1 f1 f2 k) x).trans ?_
  refine codes_at i arg1 arg2 k0_h1 f1 f2 hg k x _ ?_ ?_
  · refine (ValueKit.rect_emb_unit_val (s := S1792x1536) (k0_off1 k) ![32, 1536] (k0_off1_inb i k k0_h1) x 0).trans ?_
    exact congrArg (· + (x 0).val) (congrFun (off1_eq k) 0)
  · refine (ValueKit.rect_emb_unit_val (s := S1792x1536) (k0_off1 k) ![32, 1536] (k0_off1_inb i k k0_h1) x 1).trans ?_
    exact (congrArg (· + (x 1).val) (congrFun (off1_eq k) 1)).trans (Nat.zero_add _)

omit hg in
theorem codes_hit (k : Fin k0_t1_loop.trips) (y : S1792x1536.Idx) (h : 32 * k.val ≤ (y 0).val ∧ (y 0).val < 32 * k.val + 32) :
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 k).1, y ∈ p.1.set := by
  unfold tripL_k0_t1 trip_k0_t1
  dsimp only
  refine ⟨_, List.mem_singleton.mpr rfl, ?_⟩
  rw [Rect.mem_set_unit, off1_eq]
  exact Rect.unit_rows_mem (W := 32) y rfl rfl h

theorem codes_pb : ∀ n : ℕ, n ≤ k0_t1_loop.trips → (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 n).1, ∀ x, p.2 x = codesArr (arg1.view.read (Elt Ideal) f1) (arg2.view.read (Elt Ideal) f2) (p.1.emb x))
    ∧ ∀ y : S1792x1536.Idx, (y 0).val < 32 * n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 n).1, y ∈ p.1.set
  | 0, _ => by
    rw [pb_k0_t1.eq_1]
    exact ⟨fun p hp => absurd hp List.not_mem_nil, fun y hy => absurd hy (by omega)⟩
  | n + 1, hn => by
    have ih := codes_pb n (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 ⟨n, hn⟩
    dsimp only at e
    rw [e]
    dsimp only
    refine ⟨fun p hp => ?_, fun y hy => ?_⟩
    · rcases List.mem_append.mp hp with h | h
      · exact codes_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 hg ⟨n, hn⟩ p h
      · exact ih.1 p h
    · by_cases h : (y 0).val < 32 * n
      · obtain ⟨p, hp, hy'⟩ := ih.2 y h
        exact ⟨p, List.mem_append.mpr (.inr hp), hy'⟩
      · obtain ⟨p, hp, hy'⟩ := codes_hit 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 ⟨n, hn⟩ y ⟨by show 32 * n ≤ _; omega, by show _ < 32 * n + 32; omega⟩
        exact ⟨p, List.mem_append.mpr (.inl hp), hy'⟩

theorem codes_written (G0 : BufTy.Contents (Elt Ideal) arg10.view.ty) :
    arg10.view.read (Elt Ideal) (arg10.view.writes (Elt Ideal) G0 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 (Scf.trips k0_t1_loop.lb k0_t1_loop.ub k0_t1_loop.st)).1)
      = codesArr (arg1.view.read (Elt Ideal) f1) (arg2.view.read (Elt Ideal) f2) := by
  have h := codes_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 hg k0_t1_loop.trips le_rfl
  have h56 : k0_t1_loop.trips = 56 := by decide
  funext y
  refine View.read_writes_apply_of_pieces arg10.view G0 (codesArr (arg1.view.read (Elt Ideal) f1) (arg2.view.read (Elt Ideal) f2)) _ h.1 y (h.2 y ?_)
  rw [h56]
  exact (y 0).isLt

theorem scales_at (k : Fin k0_t1_loop.trips) (x : (⟨2, ![32, 48]⟩ : Shape).Idx) (y : S1792x48.Idx) (h0 : (y 0).val = 32 * k.val + (x 0).val) (h1 : (y 1).val = (x 1).val) :
    scalesV (rowsOf i arg1 arg2 k0_h1 f1 f2 k) x = scalesArr (arg1.view.read (Elt Ideal) f1) (arg2.view.read (Elt Ideal) f2) y := by
  have hx : x = ix2 (x 0 : Fin 32) (x 1 : Fin 48) := by
    funext a
    match a with
    | ⟨0, _⟩ => rfl
    | ⟨1, _⟩ => rfl
  have e := scalesV_apply (rowsOf i arg1 arg2 k0_h1 f1 f2 k) (x 0) (rowM (arg1.view.read (Elt Ideal) f1) (arg2.view.read (Elt Ideal) f2) (y 0))
    (fun j => rowsOf_apply i arg1 arg2 k0_h1 f1 f2 k (x 0) (y 0) h0 j) (fun j => mag_nrm _ _ hg j) (x 1)
  rw [hx]
  refine e.trans ?_
  show _ = scaleOf _ (y 1).val
  rw [h1]

theorem scales_trip (k : Fin k0_t1_loop.trips) : ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 k).2.1, ∀ x, p.2 x = scalesArr (arg1.view.read (Elt Ideal) f1) (arg2.view.read (Elt Ideal) f2) (p.1.emb x) := by
  unfold tripL_k0_t1 trip_k0_t1
  dsimp only
  intro p hp
  rw [List.mem_singleton] at hp
  subst hp
  intro x
  refine (congrFun (scales_eq i arg1 arg2 k0_h1 f1 f2 k) x).trans ?_
  refine scales_at i arg1 arg2 k0_h1 f1 f2 hg k x _ ?_ ?_
  · refine (ValueKit.rect_emb_unit_val (s := S1792x48) (k0_off2 k) ![32, 48] (k0_off2_inb i k k0_h1) x 0).trans ?_
    exact congrArg (· + (x 0).val) (congrFun (off2_eq k) 0)
  · refine (ValueKit.rect_emb_unit_val (s := S1792x48) (k0_off2 k) ![32, 48] (k0_off2_inb i k k0_h1) x 1).trans ?_
    exact (congrArg (· + (x 1).val) (congrFun (off2_eq k) 1)).trans (Nat.zero_add _)

omit hg in
theorem scales_hit (k : Fin k0_t1_loop.trips) (y : S1792x48.Idx) (h : 32 * k.val ≤ (y 0).val ∧ (y 0).val < 32 * k.val + 32) :
    ∃ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 k).2.1, y ∈ p.1.set := by
  unfold tripL_k0_t1 trip_k0_t1
  dsimp only
  refine ⟨_, List.mem_singleton.mpr rfl, ?_⟩
  rw [Rect.mem_set_unit, off2_eq]
  exact Rect.unit_rows_mem (W := 32) y rfl rfl h

theorem scales_pb : ∀ n : ℕ, n ≤ k0_t1_loop.trips → (∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 n).2.1, ∀ x, p.2 x = scalesArr (arg1.view.read (Elt Ideal) f1) (arg2.view.read (Elt Ideal) f2) (p.1.emb x))
    ∧ ∀ y : S1792x48.Idx, (y 0).val < 32 * n → ∃ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 n).2.1, y ∈ p.1.set
  | 0, _ => by
    rw [pb_k0_t1.eq_1]
    exact ⟨fun p hp => absurd hp List.not_mem_nil, fun y hy => absurd hy (by omega)⟩
  | n + 1, hn => by
    have ih := scales_pb n (by omega)
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 ⟨n, hn⟩
    dsimp only at e
    rw [e]
    dsimp only
    refine ⟨fun p hp => ?_, fun y hy => ?_⟩
    · rcases List.mem_append.mp hp with h | h
      · exact scales_trip 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 hg ⟨n, hn⟩ p h
      · exact ih.1 p h
    · by_cases h : (y 0).val < 32 * n
      · obtain ⟨p, hp, hy'⟩ := ih.2 y h
        exact ⟨p, List.mem_append.mpr (.inr hp), hy'⟩
      · obtain ⟨p, hp, hy'⟩ := scales_hit 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 ⟨n, hn⟩ y ⟨by show 32 * n ≤ _; omega, by show _ < 32 * n + 32; omega⟩
        exact ⟨p, List.mem_append.mpr (.inl hp), hy'⟩

theorem scales_written (G0 : BufTy.Contents (Elt Ideal) arg11.view.ty) :
    arg11.view.read (Elt Ideal) (arg11.view.writes (Elt Ideal) G0 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 (Scf.trips k0_t1_loop.lb k0_t1_loop.ub k0_t1_loop.st)).2.1)
      = scalesArr (arg1.view.read (Elt Ideal) f1) (arg2.view.read (Elt Ideal) f2) := by
  have h := scales_pb 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 k0_h1 f1 f2 hg k0_t1_loop.trips le_rfl
  have h56 : k0_t1_loop.trips = 56 := by decide
  funext y
  refine View.read_writes_apply_of_pieces arg11.view G0 (scalesArr (arg1.view.read (Elt Ideal) f1) (arg2.view.read (Elt Ideal) f2)) _ h.1 y (h.2 y ?_)
  rw [h56]
  exact (y 0).isLt

end

end Cert.Proof.MlpIdeal

end
-- ==== Proof.MlpRun.lean ====
/-
  The feed-forward body at one point, naming what it leaves in the codes and the scales: the first point writes them from the
  rows and the gains, every later point leaves them as it found them. Nothing is said of the other buffers.
-/
module

public import proofs.«01_k».proof.Proof.FrameMlpIdeal
public import proofs.«01_k».proof.Proof.MlpWritten

@[expose] public section

set_option maxRecDepth 16384
set_option maxHeartbeats 4000000

noncomputable section

namespace Cert.Proof.MlpIdeal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

/-- The first point. -/
theorem run_first (c : Dev nD) (E : Set ℕ) (i : grid0.Coords) (arg1 : Memref sig .tc .vmem S1792x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S280x1536 .i8) (harg4 : arg4.IsWhole) (arg5 : Memref sig .tc .vmem S1536x256 .fp8e4m3) (harg5 : arg5.IsWhole) (arg6 : Memref sig .tc .vmem S48x256 .i8) (harg6 : arg6.IsWhole) (arg7 : Memref sig .tc .vmem S1536x256 .fp8e4m3) (harg7 : arg7.IsWhole) (arg8 : Memref sig .tc .vmem S48x256 .i8) (harg8 : arg8.IsWhole) (arg9 : Memref sig .tc .vmem S256x1536 .fp8e4m3) (harg9 : arg9.IsWhole) (arg10 : Memref sig .tc .vmem S1792x1536 .fp8e4m3) (harg10 : arg10.IsWhole) (arg11 : Memref sig .tc .vmem S1792x48 .f32) (harg11 : arg11.IsWhole) (arg12 : Memref sig .tc .vmem S1792x256 .fp8e4m3) (harg12 : arg12.IsWhole) (arg13 : Memref sig .tc .vmem S1792x280 .f32) (harg13 : arg13.IsWhole) (arg14 : Memref sig .tc .vmem S1792x1536 .bf16) (harg14 : arg14.IsWhole) (arg15 : Memref sig .tc .vmem S1792x1536 .fp8e4m3) (harg15 : arg15.IsWhole) (arg16 : Memref sig .tc .vmem S1792x48 .f32) (harg16 : arg16.IsWhole) (arg17 : Memref sig .tc .vmem S1792x1536 .bf16) (harg17 : arg17.IsWhole) (arg18 : Memref sig .tc .vmem S1792x1536 .bf16) (harg18 : arg18.IsWhole) (arg19 : Memref sig .tc .vmem S1792x1536 .f32) (harg19 : arg19.IsWhole) (arg20 : Memref sig .tc .vmem S1536x256 .bf16) (harg20 : arg20.IsWhole) (arg21 : Memref sig .tc .vmem S1536x256 .bf16) (harg21 : arg21.IsWhole) (arg22 : Memref sig .tc .vmem S256x1536 .bf16) (harg22 : arg22.IsWhole) (arg23 : Memref sig .tc .vmem S48x256 .i32) (harg23 : arg23.IsWhole) (arg24 : Memref sig .tc .vmem S48x256 .i32) (harg24 : arg24.IsWhole) (arg25 : Memref sig .tc .vmem S280x1536 .i32) (harg25 : arg25.IsWhole) (arg26 : Memref sig .tc .vmem S1792x384 .f32) (harg26 : arg26.IsWhole) (h1 : k0_cond1 i = 1#1) (h2 : ¬ k0_cond2 i = 1#1)
    (X1 : Vec Ideal S1792x1536 .bf16) (X2 : Vec Ideal S1x1536 .f32) (hg : GainOk X2) (K : PUnit → sProp 𝕄) :
    iprop(owns (c : Thread nD τ) arg1 fullShare X1 ∗ owns (c : Thread nD τ) arg2 fullShare X2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare X1 ∗ owns (c : Thread nD τ) arg2 fullShare X2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare (codesArr X1 X2) ∗ owns (c : Thread nD τ) arg11 fullShare (scalesArr X1 X2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp Idealize.ShloMosaic.frame (wpE (defs₀ (F := Ideal)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  unfold owns
  iintro ⟨⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  sl_exec_parts!
  sl_step
  iapply Hk
  isplitl [H1]
  · iexists _; isplitr
    swap
    · iexact H1
    · ipureintro; exact e1
  isplitl [H2]
  · iexists _; isplitr
    swap
    · iexact H2
    · ipureintro; exact e2
  isplitl [H3]
  · iexists _, _; isplitr
    swap
    · iexact H3
    · ipureintro; rfl
  isplitl [H4]
  · iexists _, _; isplitr
    swap
    · iexact H4
    · ipureintro; rfl
  isplitl [H5]
  · iexists _, _; isplitr
    swap
    · iexact H5
    · ipureintro; rfl
  isplitl [H6]
  · iexists _, _; isplitr
    swap
    · iexact H6
    · ipureintro; rfl
  isplitl [H7]
  · iexists _, _; isplitr
    swap
    · iexact H7
    · ipureintro; rfl
  isplitl [H8]
  · iexists _, _; isplitr
    swap
    · iexact H8
    · ipureintro; rfl
  isplitl [H9]
  · iexists _, _; isplitr
    swap
    · iexact H9
    · ipureintro; rfl
  isplitl [H10]
  · iexists _; isplitr
    swap
    · iexact H10
    · ipureintro; subst e1 e2; exact codes_written Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 f1 f2 hg f10
  isplitl [H11]
  · iexists _; isplitr
    swap
    · iexact H11
    · ipureintro; subst e1 e2; exact scales_written Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 h1 f1 f2 hg f11
  isplitl [H12]
  · iexists _, _; isplitr
    swap
    · iexact H12
    · ipureintro; rfl
  isplitl [H13]
  · iexists _, _; isplitr
    swap
    · iexact H13
    · ipureintro; rfl
  isplitl [H14]
  · iexists _, _; isplitr
    swap
    · iexact H14
    · ipureintro; rfl
  isplitl [H15]
  · iexists _, _; isplitr
    swap
    · iexact H15
    · ipureintro; rfl
  isplitl [H16]
  · iexists _, _; isplitr
    swap
    · iexact H16
    · ipureintro; rfl
  isplitl [H17]
  · iexists _, _; isplitr
    swap
    · iexact H17
    · ipureintro; rfl
  isplitl [H18]
  · iexists _, _; isplitr
    swap
    · iexact H18
    · ipureintro; rfl
  isplitl [H19]
  · iexists _, _; isplitr
    swap
    · iexact H19
    · ipureintro; rfl
  isplitl [H20]
  · iexists _, _; isplitr
    swap
    · iexact H20
    · ipureintro; rfl
  isplitl [H21]
  · iexists _, _; isplitr
    swap
    · iexact H21
    · ipureintro; rfl
  isplitl [H22]
  · iexists _, _; isplitr
    swap
    · iexact H22
    · ipureintro; rfl
  isplitl [H23]
  · iexists _, _; isplitr
    swap
    · iexact H23
    · ipureintro; rfl
  isplitl [H24]
  · iexists _, _; isplitr
    swap
    · iexact H24
    · ipureintro; rfl
  isplitl [H25]
  · iexists _, _; isplitr
    swap
    · iexact H25
    · ipureintro; rfl
  iexists _, _; isplitr
  swap
  · iexact H26
  · ipureintro; rfl

/-- A later point. -/
theorem run_rest (c : Dev nD) (E : Set ℕ) (i : grid0.Coords) (arg1 : Memref sig .tc .vmem S1792x1536 .bf16) (harg1 : arg1.IsWhole) (arg2 : Memref sig .tc .vmem S1x1536 .f32) (harg2 : arg2.IsWhole) (arg3 : Memref sig .tc .vmem S1x1536 .f32) (harg3 : arg3.IsWhole) (arg4 : Memref sig .tc .vmem S280x1536 .i8) (harg4 : arg4.IsWhole) (arg5 : Memref sig .tc .vmem S1536x256 .fp8e4m3) (harg5 : arg5.IsWhole) (arg6 : Memref sig .tc .vmem S48x256 .i8) (harg6 : arg6.IsWhole) (arg7 : Memref sig .tc .vmem S1536x256 .fp8e4m3) (harg7 : arg7.IsWhole) (arg8 : Memref sig .tc .vmem S48x256 .i8) (harg8 : arg8.IsWhole) (arg9 : Memref sig .tc .vmem S256x1536 .fp8e4m3) (harg9 : arg9.IsWhole) (arg10 : Memref sig .tc .vmem S1792x1536 .fp8e4m3) (harg10 : arg10.IsWhole) (arg11 : Memref sig .tc .vmem S1792x48 .f32) (harg11 : arg11.IsWhole) (arg12 : Memref sig .tc .vmem S1792x256 .fp8e4m3) (harg12 : arg12.IsWhole) (arg13 : Memref sig .tc .vmem S1792x280 .f32) (harg13 : arg13.IsWhole) (arg14 : Memref sig .tc .vmem S1792x1536 .bf16) (harg14 : arg14.IsWhole) (arg15 : Memref sig .tc .vmem S1792x1536 .fp8e4m3) (harg15 : arg15.IsWhole) (arg16 : Memref sig .tc .vmem S1792x48 .f32) (harg16 : arg16.IsWhole) (arg17 : Memref sig .tc .vmem S1792x1536 .bf16) (harg17 : arg17.IsWhole) (arg18 : Memref sig .tc .vmem S1792x1536 .bf16) (harg18 : arg18.IsWhole) (arg19 : Memref sig .tc .vmem S1792x1536 .f32) (harg19 : arg19.IsWhole) (arg20 : Memref sig .tc .vmem S1536x256 .bf16) (harg20 : arg20.IsWhole) (arg21 : Memref sig .tc .vmem S1536x256 .bf16) (harg21 : arg21.IsWhole) (arg22 : Memref sig .tc .vmem S256x1536 .bf16) (harg22 : arg22.IsWhole) (arg23 : Memref sig .tc .vmem S48x256 .i32) (harg23 : arg23.IsWhole) (arg24 : Memref sig .tc .vmem S48x256 .i32) (harg24 : arg24.IsWhole) (arg25 : Memref sig .tc .vmem S280x1536 .i32) (harg25 : arg25.IsWhole) (arg26 : Memref sig .tc .vmem S1792x384 .f32) (harg26 : arg26.IsWhole) (h1 : ¬ k0_cond1 i = 1#1)
    (X1 : Vec Ideal S1792x1536 .bf16) (X2 : Vec Ideal S1x1536 .f32) (X10 : Vec Ideal S1792x1536 .fp8e4m3) (X11 : Vec Ideal S1792x48 .f32) (K : PUnit → sProp 𝕄) :
    iprop(owns (c : Thread nD τ) arg1 fullShare X1 ∗ owns (c : Thread nD τ) arg2 fullShare X2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare X1 ∗ owns (c : Thread nD τ) arg2 fullShare X2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare X10 ∗ owns (c : Thread nD τ) arg11 fullShare X11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp Idealize.ShloMosaic.frame (wpE (defs₀ (F := Ideal)) Variants.none c none) E (cc0_mlp i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  unfold owns
  iintro ⟨⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  by_cases h2 : k0_cond2 i = 1#1
  · sl_exec_parts!
    sl_step
    iapply Hk
    isplitl [H1]
    · iexists _; isplitr
      swap
      · iexact H1
      · ipureintro; exact e1
    isplitl [H2]
    · iexists _; isplitr
      swap
      · iexact H2
      · ipureintro; exact e2
    isplitl [H3]
    · iexists _, _; isplitr
      swap
      · iexact H3
      · ipureintro; rfl
    isplitl [H4]
    · iexists _, _; isplitr
      swap
      · iexact H4
      · ipureintro; rfl
    isplitl [H5]
    · iexists _, _; isplitr
      swap
      · iexact H5
      · ipureintro; rfl
    isplitl [H6]
    · iexists _, _; isplitr
      swap
      · iexact H6
      · ipureintro; rfl
    isplitl [H7]
    · iexists _, _; isplitr
      swap
      · iexact H7
      · ipureintro; rfl
    isplitl [H8]
    · iexists _, _; isplitr
      swap
      · iexact H8
      · ipureintro; rfl
    isplitl [H9]
    · iexists _, _; isplitr
      swap
      · iexact H9
      · ipureintro; rfl
    isplitl [H10]
    · iexists _; isplitr
      swap
      · iexact H10
      · ipureintro; exact e10
    isplitl [H11]
    · iexists _; isplitr
      swap
      · iexact H11
      · ipureintro; exact e11
    isplitl [H12]
    · iexists _, _; isplitr
      swap
      · iexact H12
      · ipureintro; rfl
    isplitl [H13]
    · iexists _, _; isplitr
      swap
      · iexact H13
      · ipureintro; rfl
    isplitl [H14]
    · iexists _, _; isplitr
      swap
      · iexact H14
      · ipureintro; rfl
    isplitl [H15]
    · iexists _, _; isplitr
      swap
      · iexact H15
      · ipureintro; rfl
    isplitl [H16]
    · iexists _, _; isplitr
      swap
      · iexact H16
      · ipureintro; rfl
    isplitl [H17]
    · iexists _, _; isplitr
      swap
      · iexact H17
      · ipureintro; rfl
    isplitl [H18]
    · iexists _, _; isplitr
      swap
      · iexact H18
      · ipureintro; rfl
    isplitl [H19]
    · iexists _, _; isplitr
      swap
      · iexact H19
      · ipureintro; rfl
    isplitl [H20]
    · iexists _, _; isplitr
      swap
      · iexact H20
      · ipureintro; rfl
    isplitl [H21]
    · iexists _, _; isplitr
      swap
      · iexact H21
      · ipureintro; rfl
    isplitl [H22]
    · iexists _, _; isplitr
      swap
      · iexact H22
      · ipureintro; rfl
    isplitl [H23]
    · iexists _, _; isplitr
      swap
      · iexact H23
      · ipureintro; rfl
    isplitl [H24]
    · iexists _, _; isplitr
      swap
      · iexact H24
      · ipureintro; rfl
    isplitl [H25]
    · iexists _, _; isplitr
      swap
      · iexact H25
      · ipureintro; rfl
    iexists _, _; isplitr
    swap
    · iexact H26
    · ipureintro; rfl
  · sl_exec_parts!
    sl_step
    iapply Hk
    isplitl [H1]
    · iexists _; isplitr
      swap
      · iexact H1
      · ipureintro; exact e1
    isplitl [H2]
    · iexists _; isplitr
      swap
      · iexact H2
      · ipureintro; exact e2
    isplitl [H3]
    · iexists _, _; isplitr
      swap
      · iexact H3
      · ipureintro; rfl
    isplitl [H4]
    · iexists _, _; isplitr
      swap
      · iexact H4
      · ipureintro; rfl
    isplitl [H5]
    · iexists _, _; isplitr
      swap
      · iexact H5
      · ipureintro; rfl
    isplitl [H6]
    · iexists _, _; isplitr
      swap
      · iexact H6
      · ipureintro; rfl
    isplitl [H7]
    · iexists _, _; isplitr
      swap
      · iexact H7
      · ipureintro; rfl
    isplitl [H8]
    · iexists _, _; isplitr
      swap
      · iexact H8
      · ipureintro; rfl
    isplitl [H9]
    · iexists _, _; isplitr
      swap
      · iexact H9
      · ipureintro; rfl
    isplitl [H10]
    · iexists _; isplitr
      swap
      · iexact H10
      · ipureintro; exact e10
    isplitl [H11]
    · iexists _; isplitr
      swap
      · iexact H11
      · ipureintro; exact e11
    isplitl [H12]
    · iexists _, _; isplitr
      swap
      · iexact H12
      · ipureintro; rfl
    isplitl [H13]
    · iexists _, _; isplitr
      swap
      · iexact H13
      · ipureintro; rfl
    isplitl [H14]
    · iexists _, _; isplitr
      swap
      · iexact H14
      · ipureintro; rfl
    isplitl [H15]
    · iexists _, _; isplitr
      swap
      · iexact H15
      · ipureintro; rfl
    isplitl [H16]
    · iexists _, _; isplitr
      swap
      · iexact H16
      · ipureintro; rfl
    isplitl [H17]
    · iexists _, _; isplitr
      swap
      · iexact H17
      · ipureintro; rfl
    isplitl [H18]
    · iexists _, _; isplitr
      swap
      · iexact H18
      · ipureintro; rfl
    isplitl [H19]
    · iexists _, _; isplitr
      swap
      · iexact H19
      · ipureintro; rfl
    isplitl [H20]
    · iexists _, _; isplitr
      swap
      · iexact H20
      · ipureintro; rfl
    isplitl [H21]
    · iexists _, _; isplitr
      swap
      · iexact H21
      · ipureintro; rfl
    isplitl [H22]
    · iexists _, _; isplitr
      swap
      · iexact H22
      · ipureintro; rfl
    isplitl [H23]
    · iexists _, _; isplitr
      swap
      · iexact H23
      · ipureintro; rfl
    isplitl [H24]
    · iexists _, _; isplitr
      swap
      · iexact H24
      · ipureintro; rfl
    isplitl [H25]
    · iexists _, _; isplitr
      swap
      · iexact H25
      · ipureintro; rfl
    iexists _, _; isplitr
    swap
    · iexact H26
    · ipureintro; rfl

end Cert.Proof.MlpIdeal

end
-- ==== Proof.MlpLaunch.lean ====
/-
  The launch of the feed-forward call with its first two results named: the rows and the gains are staged whole, the first point
  writes codes and scales, which stay in their buffers until the last point writes them back. The other windows are forgotten.
-/
module

public import proofs.«01_k».proof.Proof.MlpRun

@[expose] public section

set_option maxRecDepth 16384
set_option maxHeartbeats 4000000

noncomputable section

namespace Cert.Proof.MlpIdeal

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The argument arrays the two results read. -/
abbrev rowsA (c : Dev nD) : Vec Ideal S1792x1536 .bf16 := m ((c : Thread nD τ).loc main_arg0)
abbrev gainA (c : Dev nD) : Vec Ideal S1x1536 .f32 := m ((c : Thread nD τ).loc main_arg1)

/-! ## The points and the blocks -/

theorem coords_val (t : Fin cfg0.N) : (grid0.coords t 0).val = t.val := by
  have h := Pipeline.Grid.coords_val (G := grid0) t 0 (S := 1) (B := 35) (by decide) rfl
  have ht : t.val < 35 := t.isLt
  omega

theorem test_iff (i : grid0.Coords) (n : ℕ) (hn : n < 35) :
    Scalar.cmpi .ne (Scalar.extui (Scalar.cmpi .eq (BitVec.ofNat 32 (i 0).val) (BitVec.ofNat 32 n)) : BitVec 32) 0#32 = 1#1 ↔ (i 0).val = n := by
  have h : (i 0).val < 35 := (i 0).isLt
  have e : Scalar.cmpi .eq (BitVec.ofNat 32 (i 0).val) (BitVec.ofNat 32 n) = 1#1 ↔ (i 0).val = n := by
    show IntOp.cmpi .eq _ _ = 1#1 ↔ _
    rw [IntOp.cmpi_eq, ← BitVec.toNat_inj, BitVec.toNat_ofNat, BitVec.toNat_ofNat]
    omega
  rw [← e]
  generalize Scalar.cmpi .eq (BitVec.ofNat 32 (i 0).val) (BitVec.ofNat 32 n) = b
  revert b
  decide

theorem cond1_iff (t : Fin cfg0.N) : k0_cond1 (grid0.coords t) = 1#1 ↔ t.val = 0 := by
  rw [← coords_val t]; exact test_iff _ 0 (by norm_num)
theorem cond2_iff (t : Fin cfg0.N) : k0_cond2 (grid0.coords t) = 1#1 ↔ t.val = 34 := by
  rw [← coords_val t]; exact test_iff _ 34 (by norm_num)

theorem idx_row0 : ∀ t : Fin cfg0.N, win0_0.index t (0 : Fin 2) = 0 ∧ win0_0.index t (1 : Fin 2) = 0 :=
  (by decide +kernel : ∀ t : Fin grid0.N, _)

theorem emb0 (t : Fin cfg0.N) (j : S1792x1536.Idx) : ((cfg0.win 0).blk t).view.emb j = j := by
  obtain ⟨e0, e1⟩ := idx_row0 t
  funext a; apply Fin.ext
  match a with
  | ⟨0, _⟩ => show win0_0.index t (0 : Fin 2) * 1792 + 1 * (j 0).val = (j 0).val; omega
  | ⟨1, _⟩ => show win0_0.index t (1 : Fin 2) * 1536 + 1 * (j 1).val = (j 1).val; omega

theorem idx_row1 : ∀ t : Fin cfg0.N, win0_1.index t (0 : Fin 2) = 0 ∧ win0_1.index t (1 : Fin 2) = 0 :=
  (by decide +kernel : ∀ t : Fin grid0.N, _)

theorem emb1 (t : Fin cfg0.N) (j : S1x1536.Idx) : ((cfg0.win 1).blk t).view.emb j = j := by
  obtain ⟨e0, e1⟩ := idx_row1 t
  funext a; apply Fin.ext
  match a with
  | ⟨0, _⟩ => show win0_1.index t (0 : Fin 2) * 1 + 1 * (j 0).val = (j 0).val; omega
  | ⟨1, _⟩ => show win0_1.index t (1 : Fin 2) * 1536 + 1 * (j 1).val = (j 1).val; omega

theorem idx_row9 : ∀ t : Fin cfg0.N, win0_9.index t (0 : Fin 2) = 0 ∧ win0_9.index t (1 : Fin 2) = 0 :=
  (by decide +kernel : ∀ t : Fin grid0.N, _)

theorem emb9 (t : Fin cfg0.N) (j : S1792x1536.Idx) : ((cfg0.win 9).blk t).view.emb j = j := by
  obtain ⟨e0, e1⟩ := idx_row9 t
  funext a; apply Fin.ext
  match a with
  | ⟨0, _⟩ => show win0_9.index t (0 : Fin 2) * 1792 + 1 * (j 0).val = (j 0).val; omega
  | ⟨1, _⟩ => show win0_9.index t (1 : Fin 2) * 1536 + 1 * (j 1).val = (j 1).val; omega

theorem idx_row10 : ∀ t : Fin cfg0.N, win0_10.index t (0 : Fin 2) = 0 ∧ win0_10.index t (1 : Fin 2) = 0 :=
  (by decide +kernel : ∀ t : Fin grid0.N, _)

theorem emb10 (t : Fin cfg0.N) (j : S1792x48.Idx) : ((cfg0.win 10).blk t).view.emb j = j := by
  obtain ⟨e0, e1⟩ := idx_row10 t
  funext a; apply Fin.ext
  match a with
  | ⟨0, _⟩ => show win0_10.index t (0 : Fin 2) * 1792 + 1 * (j 0).val = (j 0).val; omega
  | ⟨1, _⟩ => show win0_10.index t (1 : Fin 2) * 48 + 1 * (j 1).val = (j 1).val; omega

theorem iblk0_eq (c : Dev nD) (t : Fin cfg0.N) : iblk m c 0 t = rowsA m c := by
  funext j
  show V m c main_arg0 (((cfg0.win 0).blk t).view.emb j) = V m c main_arg0 j
  rw [emb0]

theorem iblk1_eq (c : Dev nD) (t : Fin cfg0.N) : iblk m c 1 t = gainA m c := by
  funext j
  show V m c main_arg1 (((cfg0.win 1).blk t).view.emb j) = V m c main_arg1 j
  rw [emb1]

/-- The last point. -/
def last0 : Fin cfg0.N := ⟨34, by decide⟩

theorem covered9 (i : S1792x1536.Idx) :
    ∃ t : Fin cfg0.N, (cfg0.win 9).flush t = true ∧ i ∈ ((cfg0.win 9).blk t).view.set :=
  ⟨last0, (flush0_9 _).mpr rfl, by have h := ((cfg0.win 9).blk last0).view.emb_mem_set i; rwa [emb9] at h⟩

theorem covered10 (i : S1792x48.Idx) :
    ∃ t : Fin cfg0.N, (cfg0.win 10).flush t = true ∧ i ∈ ((cfg0.win 10).blk t).view.set :=
  ⟨last0, (flush0_10 _).mpr rfl, by have h := ((cfg0.win 10).blk last0).view.emb_mem_set i; rwa [emb10] at h⟩

/-! ## The proof data -/

/-- The windows named: the rows, the gains, the codes, the scales. -/
def fgt : Fin cfg0.W → Bool := fun w => match w with
  | ⟨0, _⟩ => false
  | ⟨1, _⟩ => false
  | ⟨9, _⟩ => false
  | ⟨10, _⟩ => false
  | _ => true

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Pipeline.Dat.unnamed (cfg := cfg0) 2 t
    | ⟨3, _⟩ => Pipeline.Dat.unnamed (cfg := cfg0) 3 t
    | ⟨4, _⟩ => Pipeline.Dat.unnamed (cfg := cfg0) 4 t
    | ⟨5, _⟩ => Pipeline.Dat.unnamed (cfg := cfg0) 5 t
    | ⟨6, _⟩ => Pipeline.Dat.unnamed (cfg := cfg0) 6 t
    | ⟨7, _⟩ => Pipeline.Dat.unnamed (cfg := cfg0) 7 t
    | ⟨8, _⟩ => Pipeline.Dat.unnamed (cfg := cfg0) 8 t
    | ⟨9, _⟩ => codesArr (rowsA m c) (gainA m c)
    | ⟨10, _⟩ => scalesArr (rowsA m c) (gainA m c)
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
    | ⟨14, _⟩ => Pipeline.Dat.unnamed (cfg := cfg0) 14 t
    | ⟨15, _⟩ => Pipeline.Dat.unnamed (cfg := cfg0) 15 t
    | ⟨16, _⟩ => Pipeline.Dat.unnamed (cfg := cfg0) 16 t
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_9 (c : Dev nD) (t : Fin cfg0.N) : (dats m 0 c).after 9 t = codesArr (rowsA m c) (gainA m c) := by dsimp only [dats]
theorem after0_10 (c : Dev nD) (t : Fin cfg0.N) : (dats m 0 c).after 10 t = scalesArr (rowsA m c) (gainA m c) := by dsimp only [dats]

theorem before0_0 (c : Dev nD) (t : Fin cfg0.N) (d) : (dats m 0 c).before 0 t d = rowsA m c :=
  (before0_0_of m (dats m 0 c) (A_eq m c 0) (after0_0 m c) t d).trans (iblk0_eq m c t)

theorem before0_1 (c : Dev nD) (t : Fin cfg0.N) (d) : (dats m 0 c).before 1 t d = gainA m c :=
  (before0_1_of m (dats m 0 c) (A_eq m c 1) (after0_1 m c) t d).trans (iblk1_eq m c t)

theorem idle9_first (t : Fin cfg0.N) (h : t.val = 0) : cfg0.idle 9 (cfg0.grid.coords t) = false := by
  show (!(k0_cond1 (grid0.coords t) == 1#1)) = false
  rw [(cond1_iff t).mpr h]; rfl

theorem idle9_rest (t : Fin cfg0.N) (h : t.val ≠ 0) : cfg0.idle 9 (cfg0.grid.coords t) = true := by
  show (!(k0_cond1 (grid0.coords t) == 1#1)) = true
  rw [beq_eq_false_iff_ne.mpr fun h' => h ((cond1_iff t).mp h')]; rfl

/-- After the first point the buffer holds what it wrote. -/
theorem before0_9 (c : Dev nD) : ∀ (k : ℕ) (hk : k + 1 < cfg0.N) (d), (dats m 0 c).before 9 ⟨k + 1, hk⟩ d = codesArr (rowsA m c) (gainA m c)
  | 0, hk, d => by
    have hk' : 0 + 1 - 1 < cfg0.N := Nat.lt_of_succ_lt hk
    have hf : ¬ (win0 9).flush (⟨0 + 1 - 1, hk'⟩ : Fin cfg0.N) = true := fun h => absurd ((flush0_9 ⟨0 + 1 - 1, hk'⟩).mp h) (by show ¬ 0 % 35 = 34; decide)
    have hi : idle0 9 (grid0.coords ⟨0 + 1 - 1, hk'⟩) = false := idle9_first ⟨0, Nat.lt_of_succ_lt hk⟩ rfl
    unfold Dat.before
    rw [if_neg (by rw [Bool.not_eq_true]; rfl), if_neg (Nat.succ_ne_zero _)]
    dsimp only
    rw [if_neg hf]
    split
    · rename_i h
      exact absurd (h.symm.trans hi) (by decide)
    · exact after0_9 m c _
  | k + 1, hk, d => by
    have hlt : k + 1 + 1 < 35 := hk
    have hk' : k + 1 + 1 - 1 < cfg0.N := Nat.lt_of_succ_lt hk
    have hf : ¬ (win0 9).flush (⟨k + 1 + 1 - 1, hk'⟩ : Fin cfg0.N) = true :=
      fun h => absurd ((flush0_9 ⟨k + 1 + 1 - 1, hk'⟩).mp h) (by show ¬ (k + 1) % 35 = 34; omega)
    have hi : idle0 9 (grid0.coords ⟨k + 1 + 1 - 1, hk'⟩) = true := idle9_rest ⟨k + 1, Nat.lt_of_succ_lt hk⟩ (Nat.succ_ne_zero _)
    unfold Dat.before
    rw [if_neg (by rw [Bool.not_eq_true]; rfl), if_neg (Nat.succ_ne_zero _)]
    dsimp only
    rw [if_neg hf]
    split
    swap
    · rename_i h
      exact absurd (h.symm.trans hi) (by decide)
    exact (Pipeline.Dat.found_eq_before ..).trans (before0_9 c k (Nat.lt_of_succ_lt hk) d)

theorem before0_9' (c : Dev nD) (t : Fin cfg0.N) (h : t.val ≠ 0) (d) : (dats m 0 c).before 9 t d = codesArr (rowsA m c) (gainA m c) := by
  obtain ⟨v, hv⟩ := t
  cases v with
  | zero => exact absurd rfl h
  | succ k => exact before0_9 m c k hv d

theorem idle10_first (t : Fin cfg0.N) (h : t.val = 0) : cfg0.idle 10 (cfg0.grid.coords t) = false := by
  show (!(k0_cond1 (grid0.coords t) == 1#1)) = false
  rw [(cond1_iff t).mpr h]; rfl

theorem idle10_rest (t : Fin cfg0.N) (h : t.val ≠ 0) : cfg0.idle 10 (cfg0.grid.coords t) = true := by
  show (!(k0_cond1 (grid0.coords t) == 1#1)) = true
  rw [beq_eq_false_iff_ne.mpr fun h' => h ((cond1_iff t).mp h')]; rfl

/-- After the first point the buffer holds what it wrote. -/
theorem before0_10 (c : Dev nD) : ∀ (k : ℕ) (hk : k + 1 < cfg0.N) (d), (dats m 0 c).before 10 ⟨k + 1, hk⟩ d = scalesArr (rowsA m c) (gainA m c)
  | 0, hk, d => by
    have hk' : 0 + 1 - 1 < cfg0.N := Nat.lt_of_succ_lt hk
    have hf : ¬ (win0 10).flush (⟨0 + 1 - 1, hk'⟩ : Fin cfg0.N) = true := fun h => absurd ((flush0_10 ⟨0 + 1 - 1, hk'⟩).mp h) (by show ¬ 0 % 35 = 34; decide)
    have hi : idle0 10 (grid0.coords ⟨0 + 1 - 1, hk'⟩) = false := idle10_first ⟨0, Nat.lt_of_succ_lt hk⟩ rfl
    unfold Dat.before
    rw [if_neg (by rw [Bool.not_eq_true]; rfl), if_neg (Nat.succ_ne_zero _)]
    dsimp only
    rw [if_neg hf]
    split
    · rename_i h
      exact absurd (h.symm.trans hi) (by decide)
    · exact after0_10 m c _
  | k + 1, hk, d => by
    have hlt : k + 1 + 1 < 35 := hk
    have hk' : k + 1 + 1 - 1 < cfg0.N := Nat.lt_of_succ_lt hk
    have hf : ¬ (win0 10).flush (⟨k + 1 + 1 - 1, hk'⟩ : Fin cfg0.N) = true :=
      fun h => absurd ((flush0_10 ⟨k + 1 + 1 - 1, hk'⟩).mp h) (by show ¬ (k + 1) % 35 = 34; omega)
    have hi : idle0 10 (grid0.coords ⟨k + 1 + 1 - 1, hk'⟩) = true := idle10_rest ⟨k + 1, Nat.lt_of_succ_lt hk⟩ (Nat.succ_ne_zero _)
    unfold Dat.before
    rw [if_neg (by rw [Bool.not_eq_true]; rfl), if_neg (Nat.succ_ne_zero _)]
    dsimp only
    rw [if_neg hf]
    split
    swap
    · rename_i h
      exact absurd (h.symm.trans hi) (by decide)
    exact (Pipeline.Dat.found_eq_before ..).trans (before0_10 c k (Nat.lt_of_succ_lt hk) d)

theorem before0_10' (c : Dev nD) (t : Fin cfg0.N) (h : t.val ≠ 0) (d) : (dats m 0 c).before 10 t d = scalesArr (rowsA m c) (gainA m c) := by
  obtain ⟨v, hv⟩ := t
  cases v with
  | zero => exact absurd rfl h
  | succ k => exact before0_10 m c k hv d

/-! ## The obligation -/

/-- What the body is called with at point `t`, and what it returns, for any reading of the two results' buffers. -/
def bodyPre (c : Dev nD) (t : Fin cfg0.N) : sProp 𝕄 :=
  iprop(Pipeline.ΦA spec0 c ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d))

def bodyPost (c : Dev nD) (t : Fin cfg0.N) (R9 R10 : sProp 𝕄) : sProp 𝕄 :=
  iprop(Pipeline.ΦA spec0 c ∗ (dats m 0 c).owesAt () t.castSucc
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d)
    ∗ (∃ d, owns (c : Thread nD τ) (st0_3 t) fullShare d)
    ∗ (∃ d, owns (c : Thread nD τ) (st0_4 t) fullShare d)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d)
    ∗ R9
    ∗ R10
    ∗ (∃ d, owns (c : Thread nD τ) (st0_11 t) fullShare d)
    ∗ (∃ d, owns (c : Thread nD τ) (st0_12 t) fullShare d)
    ∗ (∃ d, owns (c : Thread nD τ) (st0_13 t) fullShare d)
    ∗ (∃ d, owns (c : Thread nD τ) (st0_14 t) fullShare d)
    ∗ (∃ d, owns (c : Thread nD τ) (st0_15 t) fullShare d)
    ∗ (∃ d, owns (c : Thread nD τ) (st0_16 t) fullShare d))

/-- The first point. -/
theorem sound_first (c : Dev nD) (t : Fin cfg0.N) (ht : t.val = 0) (hg : GainOk (gainA m c)) (R9 R10 : sProp 𝕄)
    (h9 : owns (c : Thread nD τ) (st0_9 t) fullShare (codesArr (rowsA m c) (gainA m c)) ⊢ R9) (h10 : owns (c : Thread nD τ) (st0_10 t) fullShare (scalesArr (rowsA m c) (gainA m c)) ⊢ R10) :
    bodyPre m c t ⊢ wp Idealize.ShloMosaic.frame (wpE (defs₀ (F := Ideal)) Variants.none c none) Set.univ (bodyAt0 t) (fun _ => bodyPost m c t R9 R10) := by
  unfold bodyPre bodyPost bodyAt0 Pipeline.ΦA
  rw [scopedRest0_eq]
  simp only [before0_0, before0_1, ← owns_whole]
  rw [after0_0, after0_1, iblk0_eq, iblk1_eq]
  iintro ⟨⟨⟨Hs0, Hs1, Hs2, Hs3, Hs4, Hs5, Hs6, Hs7, Hs8⟩, Hp⟩, Ho, ⟨%d0, Ht0⟩, ⟨%d1, Ht1⟩, Ht2, Ht3, Ht4, Ht5, Ht6, Ht7, Ht8, ⟨%d9, Ht9⟩, ⟨%d10, Ht10⟩, Ht11, Ht12, Ht13, Ht14, Ht15, Ht16⟩
  iapply (run_first c Set.univ (grid0.coords t) _ _ _ _ _ _ _ _ _ _ _ _ _ _ _ _ _ _ _ _ _ _ _ _ _ _ _ _ _ _ _ _ _ _ _ _ _ _ _ _ _ _ _ _ _ _ _ _ _ _ _ _ ((cond1_iff t).mpr ht) (fun h => by have := (cond2_iff t).mp h; omega) (rowsA m c) (gainA m c) hg _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexists _; iexact Ht9
  isplitl [Ht10]; · iexists _; iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iintro ⟨Ht0, Ht1, Ht2, Ht3, Ht4, Ht5, Ht6, Ht7, Ht8, Ht9, Ht10, Ht11, Ht12, Ht13, Ht14, Ht15, Ht16, Hs0, Hs1, Hs2, Hs3, Hs4, Hs5, Hs6, Hs7, Hs8⟩
  isplitl [Hs0 Hs1 Hs2 Hs3 Hs4 Hs5 Hs6 Hs7 Hs8 Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iapply (h9); iexact Ht9
  isplitl [Ht10]; · iapply (h10); iexact Ht10
  isplitl [Ht11]; · iexact Ht11
  isplitl [Ht12]; · iexact Ht12
  isplitl [Ht13]; · iexact Ht13
  isplitl [Ht14]; · iexact Ht14
  isplitl [Ht15]; · iexact Ht15
  iexact Ht16

/-- A later point. -/
theorem sound_rest (c : Dev nD) (t : Fin cfg0.N) (ht : t.val ≠ 0) (R9 R10 : sProp 𝕄)
    (h9 : ∀ d, owns (c : Thread nD τ) (st0_9 t) fullShare ((dats m 0 c).before 9 t d) ⊢ R9) (h10 : ∀ d, owns (c : Thread nD τ) (st0_10 t) fullShare ((dats m 0 c).before 10 t d) ⊢ R10) :
    bodyPre m c t ⊢ wp Idealize.ShloMosaic.frame (wpE (defs₀ (F := Ideal)) Variants.none c none) Set.univ (bodyAt0 t) (fun _ => bodyPost m c t R9 R10) := by
  unfold bodyPre bodyPost bodyAt0 Pipeline.ΦA
  rw [scopedRest0_eq]
  simp only [before0_0, before0_1, ← owns_whole]
  rw [after0_0, after0_1, iblk0_eq, iblk1_eq]
  iintro ⟨⟨⟨Hs0, Hs1, Hs2, Hs3, Hs4, Hs5, Hs6, Hs7, Hs8⟩, Hp⟩, Ho, ⟨%d0, Ht0⟩, ⟨%d1, Ht1⟩, Ht2, Ht3, Ht4, Ht5, Ht6, Ht7, Ht8, ⟨%d9, Ht9⟩, ⟨%d10, Ht10⟩, Ht11, Ht12, Ht13, Ht14, Ht15, Ht16⟩
  iapply (run_rest c Set.univ (grid0.coords t) _ _ _ _ _ _ _ _ _ _ _ _ _ _ _ _ _ _ _ _ _ _ _ _ _ _ _ _ _ _ _ _ _ _ _ _ _ _ _ _ _ _ _ _ _ _ _ _ _ _ _ _ (fun h => ht ((cond1_iff t).mp h)) (rowsA m c) (gainA m c) ((dats m 0 c).before 9 t d9) ((dats m 0 c).before 10 t d10) _)
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iexact Ht9
  isplitl [Ht10]; · iexact Ht10
  isplitl [Ht11]; · iexact Ht11
  isplitl [Ht12]; · iexact Ht12
  isplitl [Ht13]; · iexact Ht13
  isplitl [Ht14]; · iexact Ht14
  isplitl [Ht15]; · iexact Ht15
  isplitl [Ht16]; · iexact Ht16
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hs8]; · iexact Hs8
  iintro ⟨Ht0, Ht1, Ht2, Ht3, Ht4, Ht5, Ht6, Ht7, Ht8, Ht9, Ht10, Ht11, Ht12, Ht13, Ht14, Ht15, Ht16, Hs0, Hs1, Hs2, Hs3, Hs4, Hs5, Hs6, Hs7, Hs8⟩
  isplitl [Hs0 Hs1 Hs2 Hs3 Hs4 Hs5 Hs6 Hs7 Hs8 Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    · iexact Hp
  isplitl [Ho]; · iexact Ho
  isplitl [Ht0]; · iexact Ht0
  isplitl [Ht1]; · iexact Ht1
  isplitl [Ht2]; · iexact Ht2
  isplitl [Ht3]; · iexact Ht3
  isplitl [Ht4]; · iexact Ht4
  isplitl [Ht5]; · iexact Ht5
  isplitl [Ht6]; · iexact Ht6
  isplitl [Ht7]; · iexact Ht7
  isplitl [Ht8]; · iexact Ht8
  isplitl [Ht9]; · iapply (h9 d9); iexact Ht9
  isplitl [Ht10]; · iapply (h10 d10); iexact Ht10
  isplitl [Ht11]; · iexact Ht11
  isplitl [Ht12]; · iexact Ht12
  isplitl [Ht13]; · iexact Ht13
  isplitl [Ht14]; · iexact Ht14
  isplitl [Ht15]; · iexact Ht15
  iexact Ht16

theorem obligation (hg : ∀ c, GainOk (gainA m c)) (c : Dev nD) :
    BodyObligationLoose (dats m 0 c) (defs₀ (F := Ideal)) Variants.none () Set.univ fgt := fun t => by
  rw [bigSep_W0, bigSep_W0, defs₀_row]
  have hlt : t.val < 35 := t.isLt
  by_cases ht : t.val = 0
  · have i9 := idle9_first t ht
    rewrite [i9]
    exact triple_restated (sound_first m c t ht (hg c) (owns (c : Thread nD τ) (st0_9 t) fullShare ((dats m 0 c).after 9 t)) (owns (c : Thread nD τ) (st0_10 t) fullShare ((dats m 0 c).after 10 t))
      (by rw [after0_9]) (by rw [after0_10])) rfl .rfl fun _ => .rfl
  · have i9 := idle9_rest t ht
    rewrite [i9]
    by_cases hl : t.val = 34
    · have f9 : (cfg0.win 9).flush t = true := by rw [flush0_9]; omega
      have f10 : (cfg0.win 10).flush t = true := by rw [flush0_10]; omega
      rewrite [f9]
      rewrite [f10]
      exact triple_restated (sound_rest m c t ht (owns (c : Thread nD τ) (st0_9 t) fullShare ((dats m 0 c).after 9 t)) (owns (c : Thread nD τ) (st0_10 t) fullShare ((dats m 0 c).after 10 t))
        (fun d => by rw [after0_9, before0_9' m c t ht]) (fun d => by rw [after0_10, before0_10' m c t ht])) rfl .rfl fun _ => .rfl
    · have f9 : (cfg0.win 9).flush t = false := by rw [← Bool.not_eq_true, flush0_9]; omega
      have f10 : (cfg0.win 10).flush t = false := by rw [← Bool.not_eq_true, flush0_10]; omega
      rewrite [f9]
      rewrite [f10]
      exact triple_restated (sound_rest m c t ht iprop(∃ d, owns (c : Thread nD τ) (st0_9 t) fullShare ((dats m 0 c).before 9 t d)) iprop(∃ d, owns (c : Thread nD τ) (st0_10 t) fullShare ((dats m 0 c).before 10 t d))
        (fun d => by iintro H; iexists d; iexact H) (fun d => by iintro H; iexists d; iexact H)) rfl .rfl fun _ => .rfl

set_option backward.isDefEq.respectTransparency.types false in
/-- The launch. -/
theorem run_main (hg : ∀ c, GainOk (gainA m c)) : θ_run defs (onTc (τ := τ) (main (F := Ideal))) (s₀ m ρ)
    (fun r => (Pipeline.RDat.FramePost (cfgs 0) (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => obligation m hg c) (hshare := fun c => (dats m 0 c).share_full fun _ => rfl)
    (howed := fun _ _ => rfl) (V := V m) (hmain := hmain m Variants.none) (hA := A_eq m) (hΦ := fun _ _ => rfl)

theorem flushed9_eq (c : Dev nD) (t : Fin cfg0.N) :
    (dats m 0 c).flushed 9 t = ((cfg0.win 9).blk t).view.read (Elt Ideal) (codesArr (rowsA m c) (gainA m c)) := by
  show (cfg0.win 9).cut (grid0.coords t) ((dats m 0 c).after 9 t) = _
  rw [after0_9]
  funext j
  show codesArr _ _ j = codesArr _ _ (((cfg0.win 9).blk t).view.emb j)
  rw [emb9]

theorem flushed10_eq (c : Dev nD) (t : Fin cfg0.N) :
    (dats m 0 c).flushed 10 t = ((cfg0.win 10).blk t).view.read (Elt Ideal) (scalesArr (rowsA m c) (gainA m c)) := by
  show (cfg0.win 10).cut (grid0.coords t) ((dats m 0 c).after 10 t) = _
  rw [after0_10]
  funext j
  show scalesArr _ _ j = scalesArr _ _ (((cfg0.win 10).blk t).view.emb j)
  rw [emb10]

/-- THE CALL'S VALUES: its first two results at the codes and the scales of the normalised rows, the arguments as launched. -/
theorem values (hg : ∀ c, GainOk (gainA m c)) : θ_run defs (onTc (τ := τ) (main (F := Ideal))) ⟨m, fun _ => 0, ρ⟩ (fun r => ∀ c : Dev nD,
      r.2.mem ((c.tc : Thread nD τ).loc main_v0_0) = codesArr (rowsA m c) (gainA m c)
      ∧ r.2.mem ((c.tc : Thread nD τ).loc main_v0_1) = scalesArr (rowsA m c) (gainA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨(((dats m 0 c).toRForget_arrAt_iff (w := 9) rfl _ _).mp ((h.1 c).1 9)).trans
         ((dats m 0 c).arrAt_eq_of_cover 9 _ (fun t _ => flushed9_eq m c t) covered9),
       (((dats m 0 c).toRForget_arrAt_iff (w := 10) rfl _ _).mp ((h.1 c).1 10)).trans
         ((dats m 0 c).arrAt_eq_of_cover 10 _ (fun t _ => flushed10_eq m c t) covered10),
       (Pipeline.RDat.FramePost.arr_in h.1 c 0 rfl).trans (A_eq m c 0),
       (Pipeline.RDat.FramePost.arr_in h.1 c 1 rfl).trans (A_eq m c 1),
       (Pipeline.RDat.FramePost.arr_in h.1 c 2 rfl).trans (A_eq m c 2),
       (Pipeline.RDat.FramePost.arr_in h.1 c 4 rfl).trans (A_eq m c 4),
       (Pipeline.RDat.FramePost.arr_in h.1 c 5 rfl).trans (A_eq m c 5),
       (Pipeline.RDat.FramePost.arr_in h.1 c 6 rfl).trans (A_eq m c 6),
       (Pipeline.RDat.FramePost.arr_in h.1 c 7 rfl).trans (A_eq m c 7),
       (Pipeline.RDat.FramePost.arr_in h.1 c 8 rfl).trans (A_eq m c 8),
       (Pipeline.RDat.FramePost.arr_in h.1 c 3 rfl).trans (A_eq m c 3)⟩) (run_main m ρ hg)

end Cert.Proof.MlpIdeal

end
-- ==== Proof.NormRef.lean ====
/-
  The normalisation's reference at one element, in the extended reals.
-/
module

public import proofs.«01_k».proof.Proof.Gen.NormIdeal.Value
public import proofs.«01_k».proof.Proof.NormRow

@[expose] public section

set_option maxRecDepth 65536
set_option maxHeartbeats 1000000

noncomputable section

namespace Cert.Proof.NormIdeal

open Cert.NormIdeal Cert.NormIdeal.Gen
open Idealize Idealize.ShloMosaic Quant
open Cert.Proof.MlpIdeal (blockT scaleOf codeOf)

theorem lit_1536 : Ideal.ofBits .f32 0x44C00000#32 = ((1536 : ℝ) : EReal) := by
  rw [lit_pos _ (by decide) (by decide) (by decide)]
  rw [show (BitVec.extractLsb' 0 23 0x44C00000#32).toNat = 4194304 by decide, show (BitVec.extractLsb' 23 8 0x44C00000#32).toNat = 137 by decide]
  norm_num

theorem lit_one : Ideal.ofBits .f32 0x3F800000#32 = 1 := by
  have := lit_pow 0x3F800000#32 0 (by decide) (by decide) (by decide) (by decide) (by decide)
  rw [this, zpow_zero]; rfl

/-- The mean by division is the mean by the reciprocal. -/
theorem div_1536 (s : EReal) : Ideal.div s (Ideal.ofBits .f32 0x44C00000#32) = s * ((1 / 1536 : ℝ) : EReal) := by
  rw [lit_1536]
  unfold Ideal.div
  rw [if_neg (by norm_num)]
  congr 1
  rw [one_div, EReal.coe_inv]

/-- The largest magnitude, scaled, is the largest scaled magnitude. -/
theorem sup_mag (y : Fin 32 → EReal) : (Finset.univ.sup fun r => max (y r) (-(y r))) * c448 = Finset.univ.sup fun r => mag (y r) := by
  obtain ⟨c, hc, -, hcc⟩ := c448_real
  have hmono : Monotone fun v : EReal => v * c448 := by
    intro a b hab
    rw [hcc]
    exact mul_le_mul_of_nonneg_right hab (by exact_mod_cast hc.le)
  have hbot : (⊥ : EReal) * c448 = ⊥ := by rw [hcc]; exact EReal.bot_mul_coe_of_pos hc
  have hc0 : (0 : EReal) ≤ c448 := by rw [hcc]; exact_mod_cast hc.le
  have h1 : ∀ r, (fun v : EReal => v * c448) (max (y r) (-(y r))) = mag (y r) := fun r => by
    refine (hmono.map_max).trans ?_
    unfold mag
    exact congrArg _ (EReal.neg_mul _ _)
  refine (Finset.comp_sup_eq_sup_comp (fun v : EReal => v * c448) (fun a b => hmono.map_max) hbot).trans ?_
  exact congrArg _ (funext h1)

theorem fold_sup (f : Fin 32 → EReal) : Finset.univ.fold max (Ideal.ofBits .f32 0xFF800000#32) f = Finset.univ.sup f := by
  rw [Spec.neg_inf]
  rfl

/-- A row of the arrays, normalised. -/
def row (a : Vec Ideal S1792x1536 .bf16) (w : Vec Ideal S1x1536 .f32) (p : Fin 1792) : ℕ → EReal :=
  nrm (fun j => a (ix2 p j)) (fun j => w (ix2 0 j))

theorem pay2_apply (a : Vec Ideal S1792x1536 .bf16) (w : Vec Ideal S1x1536 .f32) (p : Fin 1792) (b : Fin 48) (r : Fin 32) :
    k0_pay2 (F := Ideal) a w (ix3 p b r) = row a w p (32 * b.val + r.val) := by
  have hlt : 32 * b.val + r.val < 1536 := by omega
  unfold row nrm
  rw [dif_pos hlt]
  pointwise [k0_pay2]
  rw [div_1536]
  have e : (⟨b.val * 32 + r.val, by omega⟩ : Fin 1536) = ⟨32 * b.val + r.val, hlt⟩ := Fin.ext (by show b.val * 32 + r.val = 32 * b.val + r.val; omega)
  rw [e]
  rfl

/-- A block's largest magnitude, scaled, of an array of any extents. -/
theorem max_apply {N B : ℕ} (x : FVec Ideal ⟨3, ![N, B, 32]⟩ .f32) (hr : (⟨3, ![N, B, 32]⟩ : Shape).Reduces [2] ⟨2, ![N, B]⟩) (p : Fin N) (b : Fin B)
    (z : Fin 32 → EReal) (hx : ∀ r : Fin 32, x (ix3 p b r) = z r) :
    multiReduction .maximumf [2] ⟨2, ![N, B]⟩ (absf x) 0xFF800000#32 hr (.inl rfl) rfl (ix2 p b) = Finset.univ.sup fun r => max (z r) (-(z r)) := by
  rw [← fold_sup]
  pointwise
  simp only [hx]
  rfl

theorem scaled_at {s : Shape} (u : FVec Ideal s .f32) (j : s.Idx) :
    mulf u (broadcast s (Scalar.ofBits (F := Ideal) .f32 0x3B124925#32)) j = u j * c448 := rfl

theorem t_apply {N B : ℕ} (x : FVec Ideal ⟨3, ![N, B, 32]⟩ .f32) (hr : (⟨3, ![N, B, 32]⟩ : Shape).Reduces [2] ⟨2, ![N, B]⟩) (y : ℕ → EReal) (p : Fin N) (b : Fin B)
    (hx : ∀ r : Fin 32, x (ix3 p b r) = y (32 * b.val + r.val)) :
    mulf (multiReduction .maximumf [2] ⟨2, ![N, B]⟩ (absf x) 0xFF800000#32 hr (.inl rfl) rfl)
      (broadcast ⟨2, ![N, B]⟩ (Scalar.ofBits (F := Ideal) .f32 0x3B124925#32)) (ix2 p b) = blockT y b.val := by
  rw [scaled_at, max_apply x hr p b (fun r => y (32 * b.val + r.val)) hx]
  exact sup_mag fun r : Fin 32 => y (32 * b.val + r.val)

/-- Its exponent. -/
theorem e_apply (t : FVec Ideal S1792x48 .f32) (j : S1792x48.Idx) :
    select (cmpf .olt t (broadcast S1792x48 (Scalar.ofBits (F := Ideal) .f32 0x00800000#32))) (broadcast S1792x48 (Scalar.ofBits (F := Ideal) .f32 0x00000000#32))
      (addf (floor (divf (log t) (broadcast S1792x48 (Named.named κ "ln2" 0x3F317218#32)))) (broadcast S1792x48 (Scalar.ofBits (F := Ideal) .f32 0x3F800000#32))) j
      = expo (t j) := by
  refine (select_lt _ _ _ _).trans ?_
  show (if t j < Ideal.ofBits .f32 0x00800000#32 then Ideal.ofBits .f32 0x00000000#32
    else Ideal.liftRound Int.floor (Ideal.div (Ideal.log (t j)) ((Real.log 2 : ℝ) : EReal)) + Ideal.ofBits .f32 0x3F800000#32) = _
  rw [lit_min, lit_0, lit_one]
  rfl

/-- The codes of any array at any exponents. -/
theorem c_apply (x : FVec Ideal S1792x48x32 .f32) (e : FVec Ideal S1792x48 .f32) (p : Fin 1792) (k : Fin 1536) (u v : EReal)
    (hx : x (ix3 p ⟨k.val / 32, by omega⟩ ⟨k.val % 32, by omega⟩) = u) (he : e (ix2 p ⟨k.val / 32, by omega⟩) = v) :
    shapeCast S1792x1536 (truncf .fp8e4m3 (minimumf (broadcast S1792x48x32 (Scalar.ofBits (F := Ideal) .f32 0x43E00000#32))
      (maximumf (broadcast S1792x48x32 (Scalar.ofBits (F := Ideal) .f32 0xC3E00000#32)) (mulf x (broadcastTo S1792x48x32
        (shapeCast S1792x48x1 (exp2 (subf (broadcast S1792x48 (Scalar.ofBits (F := Ideal) .f32 0x00000000#32)) e)) shapeCasts_S1792x48_S1792x48x1)
        broadcasts_S1792x48x1_S1792x48x32)))) bitsLt_fp8e4m3_f32) shapeCasts_S1792x48x32_S1792x1536 (ix2 p k)
      = min (Ideal.ofBits .f32 0x43E00000#32) (max (Ideal.ofBits .f32 0xC3E00000#32) (u * Ideal.exp2 (0 - v))) := by
  pointwise
  rw [hx, he]
  rfl

theorem pay3_apply (a : Vec Ideal S1792x1536 .bf16) (w : Vec Ideal S1x1536 .f32) (p : Fin 1792) (b : Fin 48) :
    k0_pay3 (F := Ideal) a w (ix2 p b) = expo (blockT (row a w p) b.val) := by
  rw [← t_apply (k0_pay2 (F := Ideal) a w) reduces_S1792x48x32_S1792x48 (row a w p) p b (pay2_apply a w p b)]
  exact e_apply (mulf (multiReduction .maximumf [2] S1792x48 (absf (k0_pay2 (F := Ideal) a w)) 0xFF800000#32 reduces_S1792x48x32_S1792x48 (.inl rfl) rfl)
      (broadcast S1792x48 (Scalar.ofBits (F := Ideal) .f32 0x3B124925#32))) (ix2 p b)

theorem exp2_at (e : FVec Ideal S1792x48 .f32) (j : S1792x48.Idx) : k0_pay1 (F := Ideal) e j = Ideal.exp2 (e j) := rfl

theorem pay1_apply (a : Vec Ideal S1792x1536 .bf16) (w : Vec Ideal S1x1536 .f32) (p : Fin 1792) (b : Fin 48) :
    k0_pay1 (F := Ideal) (k0_pay3 (F := Ideal) a w) (ix2 p b) = scaleOf (row a w p) b.val := by
  rw [exp2_at, pay3_apply]
  rfl

theorem pay4_apply (a : Vec Ideal S1792x1536 .bf16) (w : Vec Ideal S1x1536 .f32) (p : Fin 1792) (k : Fin 1536) :
    k0_pay4 (F := Ideal) a w (ix2 p k) = codeOf (row a w p) k.val := by
  have hk := k.isLt
  refine (c_apply (k0_pay2 (F := Ideal) a w) (k0_pay3 (F := Ideal) a w) p k (row a w p k.val) (expo (blockT (row a w p) (k.val / 32))) ?_ (pay3_apply a w p _)).trans rfl
  rw [pay2_apply]
  congr 1
  show 32 * (k.val / 32) + k.val % 32 = k.val
  omega

end Cert.Proof.NormIdeal
-- ==== Proof.AlgebraicMlp.lean ====
/-
  The value claim of the feed-forward call's first two results: what the precondition says of the gains, and kernel and reference
  at the same codes and scales of the normalised rows.
-/
module

public import proofs.«01_k».proof.Defs
public import proofs.«01_k».proof.Proof.Gen.Pre_finite_gain
public import proofs.«01_k».proof.Proof.Gen.NormIdeal.Value
public import proofs.«01_k».proof.Proof.MlpLaunch
public import proofs.«01_k».proof.Proof.NormRef
public import Idealize.ShloMosaic.Lib.ReduceAll

@[expose] public section

set_option maxRecDepth 16384

noncomputable section

namespace Cert.Proof.AlgebraicMlp

open Idealize Idealize.ShloMosaic Idealize.ShloMosaic.TcCoe Idealize.SL.Sem

/-- Every gain's magnitude is at most the format's largest number. -/
theorem domain (a : FVec Ideal Cert.Pre_finite_gain.S1792x1536 .bf16) (w u : FVec Ideal Cert.Pre_finite_gain.S1x1536 .f32)
    (g : FVec Ideal Cert.Pre_finite_gain.S1536x8960 .fp8e4m3) (gs : IVec Cert.Pre_finite_gain.S48x8960 8)
    (p : FVec Ideal Cert.Pre_finite_gain.S1536x8960 .fp8e4m3) (ps : IVec Cert.Pre_finite_gain.S48x8960 8)
    (o : FVec Ideal Cert.Pre_finite_gain.S8960x1536 .fp8e4m3) (os : IVec Cert.Pre_finite_gain.S280x1536 8)
    (h : Cert.Pre_finite_gain.fn (F := Ideal) a w u g gs p ps o os = fun _ => 1#1) : MlpIdeal.GainOk w := by
  have h0 := congrFun h (Shape.Idx.first Cert.Pre_finite_gain.Gen.h_S_)
  dsimp only [Cert.Pre_finite_gain.fn] at h0
  haveI : Subsingleton Cert.Pre_finite_gain.S_.Idx := ⟨fun i j => funext fun k => k.elim0⟩
  intro k
  have hk := Host.reduce_andi_all _ _ _ _ _ h0 (ix2 0 k)
  by_contra hc
  have e : (BitVec.ofBool (decide (max (w (ix2 0 k)) (-(w (ix2 0 k))) ≤ Quant.f32max))) = 1#1 := hk
  rw [decide_eq_false hc] at e
  exact absurd e (by decide)

/-- An index of a matrix is its two coordinates. -/
theorem eta2 {A B : ℕ} (y : (⟨2, ![A, B]⟩ : Shape).Idx) : y = ix2 (y 0 : Fin A) (y 1 : Fin B) := by
  funext a
  match a with
  | ⟨0, _⟩ => rfl
  | ⟨1, _⟩ => rfl

/-- THE VALUE CLAIM. -/
theorem algebraic : Cert.algebraic_MlpIdeal_NormIdeal_pre_finite_gain := by
  intro m g m' g' hpre hargs
  have hd := fun c => domain _ _ _ _ _ _ _ _ _ (hpre c)
  refine ⟨fun c => MlpIdeal.codesArr (MlpIdeal.rowsA m c) (MlpIdeal.gainA m c),
    fun c => MlpIdeal.scalesArr (MlpIdeal.rowsA m c) (MlpIdeal.gainA m c), MlpIdeal.values m g hd, ?_⟩
  refine (θ_run _ _ _).mono (fun r h c => ?_) (Cert.NormIdeal.Value.run m' g')
  obtain ⟨h0, h1, hkept⟩ := h c
  obtain ⟨e0, e1, -⟩ := hargs c
  refine ⟨h0.trans ?_, h1.trans ?_, hkept⟩
  · rw [e0, e1]
    funext y
    rw [eta2 y]
    exact NormIdeal.pay4_apply _ _ (y 0) (y 1)
  · rw [e0, e1]
    funext y
    rw [eta2 y]
    exact NormIdeal.pay1_apply _ _ (y 0) (y 1)

end Cert.Proof.AlgebraicMlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_in_domain
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Loops
public import proofs.«01_k».proof.Proof.Gen.Mlp.Loops
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.Pre_finite_gain
public import proofs.«01_k».proof.Proof.FrameKernel
public import proofs.«01_k».proof.Proof.FrameKernelIdeal
public import proofs.«01_k».proof.Proof.Algebraic
public import proofs.«01_k».proof.Proof.FrameMlp
public import proofs.«01_k».proof.Proof.AlgebraicMlp
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mlp.Gen.facts,
  Cert.MlpIdeal.Gen.facts, Cert.NormIdeal.Gen.facts, Cert.Pre_in_domain.Gen.facts, Cert.Pre_finite_gain.Gen.facts,
  fun m g _ => Cert.Proof.Kernel.frame m g,
  fun m g _ => Cert.Proof.KernelIdeal.frame m g,
  fun m g _ => Cert.Proof.KernelIdeal.frame m g,
  fun m g _ => Cert.ReferenceIdeal.Gen.frame m g,
  fun m g _ => Cert.ReferenceIdeal.Gen.frame m g,
  fun m g _ => Cert.Proof.Mlp.frame m g,
  fun m g _ => Cert.Proof.MlpIdeal.frame m g,
  fun m g _ => Cert.Proof.MlpIdeal.frame m g,
  fun m g _ => Cert.NormIdeal.Gen.frame m g,
  fun m g _ => Cert.NormIdeal.Gen.frame m g,
  IdealRules.named_const.statement _ _ _ _ _ rfl,
  ⟨IdealRules.named_const.statement _ _ _ _ _ rfl, IdealRules.truncf_extf.statement _ _ _, IdealRules.truncf_extf.statement _ _ _,
    IdealRules.truncf_extf.statement _ _ _⟩,
  Cert.Proof.Algebraic.algebraic,
  Cert.Proof.AlgebraicMlp.algebraic⟩

end Cert.Proof

end
